-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def preserves_Kernel_KernelIdeal : Prop :=
  IdealRules.bf16_pack.Statement Cert.KernelIdeal.S64x512
  ∧ IdealRules.bf16_pack.Statement Cert.KernelIdeal.S64x128
  ∧ IdealRules.bf16_pack.Statement Cert.KernelIdeal.S64x64
  ∧ IdealRules.bf16_pack.Statement Cert.KernelIdeal.S128x128

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_v8) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_v10) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_v10) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_v8) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_v8) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)) (v2 : (c : Dev Cert.Kernel9Ideal.nD) → Buf (Elt Ideal) ((c.tc : Thread Cert.Kernel9Ideal.nD Cert.Kernel9Ideal.τ).loc Cert.Kernel9Ideal.main_v1_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_v1_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_v16) = v1 c
          ∧ r.2.mem ((c.tc : Thread Cert.Reference9Ideal.nD Cert.Reference9Ideal.τ).loc Cert.Reference9Ideal.main_v29) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)) (v2 : (c : Dev Cert.Kernel10Ideal.nD) → Buf (Elt Ideal) ((c.tc : Thread Cert.Kernel10Ideal.nD Cert.Kernel10Ideal.τ).loc Cert.Kernel10Ideal.main_v1_2)) (v3 : (c : Dev Cert.Kernel10Ideal.nD) → Buf (Elt Ideal) ((c.tc : Thread Cert.Kernel10Ideal.nD Cert.Kernel10Ideal.τ).loc Cert.Kernel10Ideal.main_v1_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_v1_2) = v2 c
          ∧ r.2.mem ((c.tc : Thread Cert.Kernel10Ideal.nD Cert.Kernel10Ideal.τ).loc Cert.Kernel10Ideal.main_v1_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v34) = v0 c
          ∧ r.2.mem ((c.tc : Thread Cert.Reference10Ideal.nD Cert.Reference10Ideal.τ).loc Cert.Reference10Ideal.main_v54) = v1 c
          ∧ r.2.mem ((c.tc : Thread Cert.Reference10Ideal.nD Cert.Reference10Ideal.τ).loc Cert.Reference10Ideal.main_v37) = v2 c
          ∧ r.2.mem ((c.tc : Thread Cert.Reference10Ideal.nD Cert.Reference10Ideal.τ).loc Cert.Reference10Ideal.main_v55) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v12) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Kernel.lean ====
abbrev S4096x3584 : Shape := ⟨2, ![4096, 3584]⟩
abbrev S2x512 : Shape := ⟨2, ![2, 512]⟩
abbrev S1x512 : Shape := ⟨2, ![1, 512]⟩
abbrev S4096x512 : Shape := ⟨2, ![4096, 512]⟩
abbrev S_ : Shape := ⟨0, ![]⟩
abbrev S512 : Shape := ⟨1, ![512]⟩
abbrev S4x128 : Shape := ⟨2, ![4, 128]⟩
abbrev S4096x4x128 : Shape := ⟨3, ![4096, 4, 128]⟩
abbrev S1x4x128 : Shape := ⟨3, ![1, 4, 128]⟩
abbrev S4096x4096 : Shape := ⟨2, ![4096, 4096]⟩
abbrev S4096x4096x1x1 : Shape := ⟨4, ![4096, 4096, 1, 1]⟩
abbrev S4096x1x4x128 : Shape := ⟨4, ![4096, 1, 4, 128]⟩
abbrev S1x4096x4x128 : Shape := ⟨4, ![1, 4096, 4, 128]⟩
abbrev S4096x4096x4x128 : Shape := ⟨4, ![4096, 4096, 4, 128]⟩
abbrev S4096x4096x4 : Shape := ⟨3, ![4096, 4096, 4]⟩
abbrev S4x128x4096 : Shape := ⟨3, ![4, 128, 4096]⟩
abbrev S64x4x128 : Shape := ⟨3, ![64, 4, 128]⟩
abbrev S64 : Shape := ⟨1, ![64]⟩
abbrev S64x1 : Shape := ⟨2, ![64, 1]⟩
abbrev S4096 : Shape := ⟨1, ![4096]⟩
abbrev S1x4096 : Shape := ⟨2, ![1, 4096]⟩
abbrev S64x4096 : Shape := ⟨2, ![64, 4096]⟩
abbrev S64x4096x1x1 : Shape := ⟨4, ![64, 4096, 1, 1]⟩
abbrev S64x1x4x128 : Shape := ⟨4, ![64, 1, 4, 128]⟩
abbrev S64x4096x4x128 : Shape := ⟨4, ![64, 4096, 4, 128]⟩
abbrev S4x128x64x128 : Shape := ⟨4, ![4, 128, 64, 128]⟩
abbrev S64x128x4x128 : Shape := ⟨4, ![64, 128, 4, 128]⟩
abbrev S64x128x512 : Shape := ⟨3, ![64, 128, 512]⟩
abbrev S512x512 : Shape := ⟨2, ![512, 512]⟩
abbrev S8x128x512 : Shape := ⟨3, ![8, 128, 512]⟩
abbrev S1x128x512 : Shape := ⟨3, ![1, 128, 512]⟩
abbrev S128x512 : Shape := ⟨2, ![128, 512]⟩
abbrev S512x128 : Shape := ⟨2, ![512, 128]⟩
abbrev S512x1 : Shape := ⟨2, ![512, 1]⟩
abbrev S64x64 : Shape := ⟨2, ![64, 64]⟩
abbrev S64x512 : Shape := ⟨2, ![64, 512]⟩
abbrev S64x128 : Shape := ⟨2, ![64, 128]⟩
abbrev S128x128 : Shape := ⟨2, ![128, 128]⟩

abbrev nBuf : Space → Nat
  | .hbm => 155
  | .vmem => 31
  | .smem => 0
  | _ => 0

abbrev hbmTy0_0 (i : Nat) : BufTy := match i % 128 with
  | 0 => ⟨S4096x3584, .f32⟩
  | 1 => ⟨S2x512, .f32⟩
  | 2 => ⟨S1x512, .f32⟩
  | 3 => ⟨S4096x512, .f32⟩
  | 4 => ⟨S4096x512, .f32⟩
  | 5 => ⟨S4096x512, .f32⟩
  | 6 => ⟨S4096x512, .f32⟩
  | 7 => ⟨S4096x512, .f32⟩
  | 8 => ⟨S_, .f32⟩
  | 9 => ⟨S512, .f32⟩
  | 10 => ⟨S_, .f32⟩
  | 11 => ⟨S512, .f32⟩
  | 12 => ⟨S512, .f32⟩
  | 13 => ⟨S1x512, .f32⟩
  | 14 => ⟨S2x512, .f32⟩
  | 15 => ⟨S2x512, .f32⟩
  | 16 => ⟨S2x512, .f32⟩
  | 17 => ⟨S_, .f32⟩
  | 18 => ⟨S512, .f32⟩
  | 19 => ⟨S1x512, .f32⟩
  | 20 => ⟨S2x512, .f32⟩
  | 21 => ⟨S2x512, .f32⟩
  | 22 => ⟨S_, .f32⟩
  | 23 => ⟨S_, .f32⟩
  | 24 => ⟨S2x512, .f32⟩
  | 25 => ⟨S1x512, .f32⟩
  | 26 => ⟨S512, .f32⟩
  | 27 => ⟨S4x128, .f32⟩
  | 28 => ⟨S4096x512, .f32⟩
  | 29 => ⟨S4096x512, .f32⟩
  | 30 => ⟨S_, .f32⟩
  | 31 => ⟨S4096x512, .f32⟩
  | 32 => ⟨S4096x512, .f32⟩
  | 33 => ⟨S_, .f32⟩
  | 34 => ⟨S4096x512, .f32⟩
  | 35 => ⟨S4096x512, .f32⟩
  | 36 => ⟨S4096x512, .f32⟩
  | 37 => ⟨S4096x4x128, .f32⟩
  | 38 => ⟨S4x128, .f32⟩
  | 39 => ⟨S4x128, .f32⟩
  | 40 => ⟨S4x128, .f32⟩
  | 41 => ⟨S4096x4x128, .f32⟩
  | 42 => ⟨S4096x4x128, .f32⟩
  | 43 => ⟨S_, .f32⟩
  | 44 => ⟨S4096x4x128, .f32⟩
  | 45 => ⟨S4096x4x128, .f32⟩
  | 46 => ⟨S4096x4x128, .f32⟩
  | 47 => ⟨S4096x4x128, .f32⟩
  | 48 => ⟨S4096x4x128, .i1⟩
  | 49 => ⟨S4096x4x128, .f32⟩
  | 50 => ⟨S4096x4x128, .f32⟩
  | 51 => ⟨S4096x4x128, .f32⟩
  | 52 => ⟨S4096x4x128, .f32⟩
  | 53 => ⟨S4096x4x128, .f32⟩
  | 54 => ⟨S4096x4x128, .f32⟩
  | 55 => ⟨S4096x4x128, .f32⟩
  | 56 => ⟨S4096x4x128, .f32⟩
  | 57 => ⟨S4096x4x128, .f32⟩
  | 58 => ⟨S1x4x128, .f32⟩
  | 59 => ⟨S4096x4x128, .f32⟩
  | 60 => ⟨S4096x4x128, .f32⟩
  | 61 => ⟨S1x4x128, .f32⟩
  | 62 => ⟨S4096x4x128, .f32⟩
  | 63 => ⟨S4096x4x128, .f32⟩
  | 64 => ⟨S4096x4x128, .f32⟩
  | 65 => ⟨S4096x4x128, .f32⟩
  | 66 => ⟨S4096x4x128, .i1⟩
  | 67 => ⟨S4096x4x128, .f32⟩
  | 68 => ⟨S4096x4x128, .f32⟩
  | 69 => ⟨S4096x4x128, .f32⟩
  | 70 => ⟨S4096x4x128, .f32⟩
  | 71 => ⟨S4096x4x128, .f32⟩
  | 72 => ⟨S4096x4x128, .f32⟩
  | 73 => ⟨S4096x4x128, .f32⟩
  | 74 => ⟨S4096x4x128, .f32⟩
  | 75 => ⟨S4096x4x128, .f32⟩
  | 76 => ⟨S4096x4x128, .f32⟩
  | 77 => ⟨S4096x4x128, .f32⟩
  | 78 => ⟨S_, .f32⟩
  | 79 => ⟨S_, .f32⟩
  | 80 => ⟨S4096x4x128, .f32⟩
  | 81 => ⟨S_, .i1⟩
  | 82 => ⟨S4096x4096, .i1⟩
  | 83 => ⟨S4096x4096, .i32⟩
  | 84 => ⟨S_, .i32⟩
  | 85 => ⟨S4096x4096, .i32⟩
  | 86 => ⟨S4096x4096, .i32⟩
  | 87 => ⟨S4096x4096, .i32⟩
  | 88 => ⟨S4096x4096, .i1⟩
  | 89 => ⟨S_, .i1⟩
  | 90 => ⟨S4096x4096, .i1⟩
  | 91 => ⟨S4096x4096, .i1⟩
  | 92 => ⟨S4096x4096x1x1, .i1⟩
  | 93 => ⟨S4096x1x4x128, .f32⟩
  | 94 => ⟨S1x4096x4x128, .f32⟩
  | 95 => ⟨S4096x4096x4x128, .f32⟩
  | 96 => ⟨S4096x4096x4x128, .f32⟩
  | 97 => ⟨S4096x4096x4x128, .f32⟩
  | 98 => ⟨S_, .f32⟩
  | 99 => ⟨S_, .f32⟩
  | 100 => ⟨S4096x4096x4x128, .i1⟩
  | 101 => ⟨S4096x4096x4x128, .f32⟩
  | 102 => ⟨S4096x4096x4x128, .f32⟩
  | 103 => ⟨S4096x4096x4x128, .f32⟩
  | 104 => ⟨S4096x1x4x128, .f32⟩
  | 105 => ⟨S1x4096x4x128, .f32⟩
  | 106 => ⟨S4096x4096x4x128, .f32⟩
  | 107 => ⟨S4096x4096x4x128, .f32⟩
  | 108 => ⟨S4096x4096x4x128, .f32⟩
  | 109 => ⟨S4096x4096x4x128, .f32⟩
  | 110 => ⟨S_, .f32⟩
  | 111 => ⟨S4096x4096x4, .f32⟩
  | 112 => ⟨S4x128x4096, .f32⟩
  | 113 => ⟨S4096x4x128, .f32⟩
  | 114 => ⟨S4096x512, .f32⟩
  | 115 => ⟨S_, .f32⟩
  | 116 => ⟨S_, .f32⟩
  | 117 => ⟨S4096x4x128, .f32⟩
  | 118 => ⟨S4096x4x128, .f32⟩
  | 119 => ⟨S64x4x128, .f32⟩
  | 120 => ⟨S64, .i32⟩
  | 121 => ⟨S64x1, .i32⟩
  | 122 => ⟨S_, .i32⟩
  | 123 => ⟨S64x1, .i32⟩
  | 124 => ⟨S64x1, .i32⟩
  | 125 => ⟨S4096, .i32⟩
  | 126 => ⟨S1x4096, .i32⟩
  | 127 => ⟨S64x4096, .i32⟩
  | _ => ⟨S4096x3584, .f32⟩

abbrev hbmTy0_1 (i : Nat) : BufTy := match i % 128 with
  | 0 => ⟨S64x4096, .i32⟩
  | 1 => ⟨S64x4096, .i1⟩
  | 2 => ⟨S64x4096x1x1, .i1⟩
  | 3 => ⟨S64x1x4x128, .f32⟩
  | 4 => ⟨S1x4096x4x128, .f32⟩
  | 5 => ⟨S64x4096x4x128, .f32⟩
  | 6 => ⟨S64x4096x4x128, .f32⟩
  | 7 => ⟨S64x4096x4x128, .f32⟩
  | 8 => ⟨S_, .f32⟩
  | 9 => ⟨S_, .f32⟩
  | 10 => ⟨S64x4096x4x128, .i1⟩
  | 11 => ⟨S64x4096x4x128, .f32⟩
  | 12 => ⟨S64x4096x4x128, .f32⟩
  | 13 => ⟨S64x4096x4x128, .f32⟩
  | 14 => ⟨S1x4096x4x128, .f32⟩
  | 15 => ⟨S64x4096x4x128, .f32⟩
  | 16 => ⟨S64x4096x4x128, .f32⟩
  | 17 => ⟨S4x128x64x128, .f32⟩
  | 18 => ⟨S64x128x4x128, .f32⟩
  | 19 => ⟨S64x128x512, .f32⟩
  | 20 => ⟨S64x128x512, .bf16⟩
  | 21 => ⟨S4096x512, .bf16⟩
  | 22 => ⟨S4096x512, .bf16⟩
  | 23 => ⟨S4096x512, .bf16⟩
  | 24 => ⟨S4096x512, .bf16⟩
  | 25 => ⟨S1x512, .f32⟩
  | 26 => ⟨S2x512, .f32⟩
  | _ => ⟨S4096x3584, .f32⟩

abbrev hbmTy (i : Nat) : BufTy := match i / 128 with
  | 0 => hbmTy0_0 i
  | 1 => hbmTy0_1 i
  | _ => ⟨S4096x3584, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S8x128x512, .bf16⟩
  | .local _ .vmem, ⟨11, _⟩ => ⟨S8x128x512, .bf16⟩
  | .local _ .vmem, ⟨12, _⟩ => ⟨S1x128x512, .bf16⟩
  | .local _ .vmem, ⟨13, _⟩ => ⟨S1x128x512, .bf16⟩
  | .local _ .vmem, ⟨14, _⟩ => ⟨S512x512, .f32⟩
  | .local _ .vmem, ⟨15, _⟩ => ⟨S512x512, .f32⟩
  | .local _ .vmem, ⟨16, _⟩ => ⟨S2x512, .f32⟩
  | .local _ .vmem, ⟨17, _⟩ => ⟨S1x512, .f32⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S1x512, .f32⟩
  | .local _ .vmem, ⟨27, _⟩ => ⟨S2x512, .f32⟩
  | .local _ .vmem, ⟨28, _⟩ => ⟨S512x512, .f32⟩
  | .local _ .vmem, ⟨29, _⟩ => ⟨S128x512, .f32⟩
  | .local _ .vmem, ⟨30, _⟩ => ⟨S1x512, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_call0_cst : Ref sig .tc := ⟨.hbm, 22, rfl⟩
abbrev main_call0_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call2_v0 : Ref sig .tc := ⟨.hbm, 42, rfl⟩
abbrev main_call2_call0_cst : Ref sig .tc := ⟨.hbm, 43, rfl⟩
abbrev main_call2_call0_v0 : Ref sig .tc := ⟨.hbm, 44, rfl⟩
abbrev main_call2_call0_v1 : Ref sig .tc := ⟨.hbm, 45, rfl⟩
abbrev main_call2_call0_v2 : Ref sig .tc := ⟨.hbm, 46, rfl⟩
abbrev main_call2_call0_v3 : Ref sig .tc := ⟨.hbm, 47, rfl⟩
abbrev main_call2_call0_v4 : Ref sig .tc := ⟨.hbm, 48, rfl⟩
abbrev main_call2_call0_v5 : Ref sig .tc := ⟨.hbm, 49, rfl⟩
abbrev main_call2_call0_v6 : Ref sig .tc := ⟨.hbm, 50, rfl⟩
abbrev main_call2_call0_v7 : Ref sig .tc := ⟨.hbm, 51, rfl⟩
abbrev main_call2_call0_v8 : Ref sig .tc := ⟨.hbm, 52, rfl⟩
abbrev main_call2_call0_v9 : Ref sig .tc := ⟨.hbm, 53, rfl⟩
abbrev main_call2_call0_v10 : Ref sig .tc := ⟨.hbm, 54, rfl⟩
abbrev main_call2_call0_v11 : Ref sig .tc := ⟨.hbm, 55, rfl⟩
abbrev main_call2_v1 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_call3_call0_cst : Ref sig .tc := ⟨.hbm, 78, rfl⟩
abbrev main_call3_call0_v0 : Ref sig .tc := ⟨.hbm, 79, rfl⟩
abbrev main_v46 : Ref sig .tc := ⟨.hbm, 80, rfl⟩
abbrev main_c : Ref sig .tc := ⟨.hbm, 81, rfl⟩
abbrev main_v47 : Ref sig .tc := ⟨.hbm, 82, rfl⟩
abbrev main_call4_v0 : Ref sig .tc := ⟨.hbm, 83, rfl⟩
abbrev main_call4_c : Ref sig .tc := ⟨.hbm, 84, rfl⟩
abbrev main_call4_v1 : Ref sig .tc := ⟨.hbm, 85, rfl⟩
abbrev main_call4_v2 : Ref sig .tc := ⟨.hbm, 86, rfl⟩
abbrev main_call4_v3 : Ref sig .tc := ⟨.hbm, 87, rfl⟩
abbrev main_call4_v4 : Ref sig .tc := ⟨.hbm, 88, rfl⟩
abbrev main_call4_c_0 : Ref sig .tc := ⟨.hbm, 89, rfl⟩
abbrev main_call4_v5 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_cst_2 : Ref sig .tc := ⟨.hbm, 98, rfl⟩
abbrev main_call5_v0 : Ref sig .tc := ⟨.hbm, 99, rfl⟩
abbrev main_call5_v1 : Ref sig .tc := ⟨.hbm, 100, rfl⟩
abbrev main_call5_v2 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_cst_3 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_call6_call0_cst : Ref sig .tc := ⟨.hbm, 115, rfl⟩
abbrev main_call6_call0_v0 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_c_4 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_cst_5 : Ref sig .tc := ⟨.hbm, 136, rfl⟩
abbrev main_call7_v0 : Ref sig .tc := ⟨.hbm, 137, rfl⟩
abbrev main_call7_v1 : Ref sig .tc := ⟨.hbm, 138, rfl⟩
abbrev main_call7_v2 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94_0 : Ref sig .tc := ⟨.hbm, 149, rfl⟩
abbrev main_v94_1 : Ref sig .tc := ⟨.hbm, 150, rfl⟩
abbrev main_v94_2 : Ref sig .tc := ⟨.hbm, 151, rfl⟩
abbrev main_v94_3 : Ref sig .tc := ⟨.hbm, 152, rfl⟩
abbrev main_v94_4 : Ref sig .tc := ⟨.hbm, 153, rfl⟩
abbrev main_v94_5 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg15_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem15_0 : DmaSem sig := 27

abbrev nD : Nat := 1
abbrev τ : Topo := Topo.v7x

variable {F : FTy → Type} [BitOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v5207 : BitVec 1 := Scalar.cmpi .eq arg0 c7_i32
  let v5208 : BitVec 32 := Scalar.extui v5207
  let c0_i32_1387 : BitVec 32 := 0#32
  let v5209 : BitVec 1 := Scalar.cmpi .ne v5208 c0_i32_1387
  v5209

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c3_i32 : BitVec 32 := 3#32
  let c0_i32 : BitVec 32 := 0#32
  ![v0.toNat, c3_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c4_i32 : BitVec 32 := 4#32
  let c0_i32 : BitVec 32 := 0#32
  ![v0.toNat, c4_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c5_i32 : BitVec 32 := 5#32
  let c0_i32 : BitVec 32 := 0#32
  ![v0.toNat, c5_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c6_i32 : BitVec 32 := 6#32
  let c0_i32 : BitVec 32 := 0#32
  ![v0.toNat, c6_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 3 → Nat :=
  let arg0 : BitVec 32 := BitVec.ofNat 32 (i 0).val
  let c7_i32 : BitVec 32 := 7#32
  let v0 : BitVec 32 := Scalar.subi c7_i32 arg0
  let c1_i32 : BitVec 32 := 1#32
  let v1 : BitVec 32 := Scalar.addi v0 c1_i32
  let c8_i32 : BitVec 32 := 8#32
  let v2 : BitVec 32 := Scalar.muli v1 c8_i32
  let c6_i32 : BitVec 32 := 6#32
  let v3 : BitVec 32 := Scalar.shrui v2 c6_i32
  let v4 : BitVec 32 := Scalar.subi v2 v3
  let c0_i32 : BitVec 32 := 0#32
  let c0_i32_0 : BitVec 32 := 0#32
  let c0_i32_1 : BitVec 32 := 0#32
  ![v4.toNat, c0_i32.toNat, c0_i32_0.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== KernelIdeal.lean ====
variable {F : FTy → Type} [FloatOps F]
-- ==== ReferenceIdeal.lean ====
abbrev S4096x3584 : Shape := ⟨2, ![4096, 3584]⟩
abbrev S2x512 : Shape := ⟨2, ![2, 512]⟩
abbrev S1x512 : Shape := ⟨2, ![1, 512]⟩
abbrev S4096x512 : Shape := ⟨2, ![4096, 512]⟩
abbrev S_ : Shape := ⟨0, ![]⟩
abbrev S512 : Shape := ⟨1, ![512]⟩
abbrev S4x128 : Shape := ⟨2, ![4, 128]⟩
abbrev S4096x4x128 : Shape := ⟨3, ![4096, 4, 128]⟩
abbrev S1x4x128 : Shape := ⟨3, ![1, 4, 128]⟩
abbrev S4096x4096 : Shape := ⟨2, ![4096, 4096]⟩
abbrev S4096x4096x1x1 : Shape := ⟨4, ![4096, 4096, 1, 1]⟩
abbrev S4096x1x4x128 : Shape := ⟨4, ![4096, 1, 4, 128]⟩
abbrev S1x4096x4x128 : Shape := ⟨4, ![1, 4096, 4, 128]⟩
abbrev S4096x4096x4x128 : Shape := ⟨4, ![4096, 4096, 4, 128]⟩
abbrev S4096x4096x4 : Shape := ⟨3, ![4096, 4096, 4]⟩
abbrev S4x128x4096 : Shape := ⟨3, ![4, 128, 4096]⟩
abbrev S4096x4 : Shape := ⟨2, ![4096, 4]⟩
abbrev S4096x4x1 : Shape := ⟨3, ![4096, 4, 1]⟩
abbrev S4x4096x4096 : Shape := ⟨3, ![4, 4096, 4096]⟩

abbrev nBuf : Space → Nat
  | .hbm => 373
  | .vmem => 0
  | .smem => 0
  | _ => 0

abbrev hbmTy0_0 (i : Nat) : BufTy := match i % 128 with
  | 0 => ⟨S4096x3584, .f32⟩
  | 1 => ⟨S2x512, .f32⟩
  | 2 => ⟨S1x512, .f32⟩
  | 3 => ⟨S4096x512, .f32⟩
  | 4 => ⟨S4096x512, .f32⟩
  | 5 => ⟨S4096x512, .f32⟩
  | 6 => ⟨S4096x512, .f32⟩
  | 7 => ⟨S4096x512, .f32⟩
  | 8 => ⟨S_, .f32⟩
  | 9 => ⟨S512, .f32⟩
  | 10 => ⟨S1x512, .f32⟩
  | 11 => ⟨S2x512, .f32⟩
  | 12 => ⟨S2x512, .i1⟩
  | 13 => ⟨S2x512, .f32⟩
  | 14 => ⟨S_, .f32⟩
  | 15 => ⟨S512, .f32⟩
  | 16 => ⟨S_, .f32⟩
  | 17 => ⟨S512, .f32⟩
  | 18 => ⟨S512, .f32⟩
  | 19 => ⟨S_, .f32⟩
  | 20 => ⟨S512, .f32⟩
  | 21 => ⟨S512, .i1⟩
  | 22 => ⟨S_, .f32⟩
  | 23 => ⟨S512, .f32⟩
  | 24 => ⟨S512, .i1⟩
  | 25 => ⟨S_, .f32⟩
  | 26 => ⟨S512, .f32⟩
  | 27 => ⟨S_, .f32⟩
  | 28 => ⟨S512, .f32⟩
  | 29 => ⟨S_, .f32⟩
  | 30 => ⟨S512, .f32⟩
  | 31 => ⟨S512, .f32⟩
  | 32 => ⟨S512, .f32⟩
  | 33 => ⟨S1x512, .f32⟩
  | 34 => ⟨S2x512, .f32⟩
  | 35 => ⟨S2x512, .f32⟩
  | 36 => ⟨S2x512, .f32⟩
  | 37 => ⟨S_, .f32⟩
  | 38 => ⟨S512, .f32⟩
  | 39 => ⟨S1x512, .f32⟩
  | 40 => ⟨S2x512, .f32⟩
  | 41 => ⟨S2x512, .f32⟩
  | 42 => ⟨S1x512, .f32⟩
  | 43 => ⟨S_, .f32⟩
  | 44 => ⟨S1x512, .f32⟩
  | 45 => ⟨S1x512, .f32⟩
  | 46 => ⟨S_, .f32⟩
  | 47 => ⟨S_, .f32⟩
  | 48 => ⟨S2x512, .f32⟩
  | 49 => ⟨S1x512, .f32⟩
  | 50 => ⟨S512, .f32⟩
  | 51 => ⟨S4x128, .f32⟩
  | 52 => ⟨S4096x512, .f32⟩
  | 53 => ⟨S4096x512, .f32⟩
  | 54 => ⟨S_, .f32⟩
  | 55 => ⟨S4096x512, .f32⟩
  | 56 => ⟨S4096x512, .f32⟩
  | 57 => ⟨S_, .f32⟩
  | 58 => ⟨S4096x512, .f32⟩
  | 59 => ⟨S4096x512, .f32⟩
  | 60 => ⟨S_, .f32⟩
  | 61 => ⟨S4096x512, .f32⟩
  | 62 => ⟨S4096x512, .f32⟩
  | 63 => ⟨S4096x512, .f32⟩
  | 64 => ⟨S4096x512, .f32⟩
  | 65 => ⟨S4096x4x128, .f32⟩
  | 66 => ⟨S4x128, .f32⟩
  | 67 => ⟨S4x128, .f32⟩
  | 68 => ⟨S4x128, .f32⟩
  | 69 => ⟨S_, .f32⟩
  | 70 => ⟨S4x128, .f32⟩
  | 71 => ⟨S4x128, .f32⟩
  | 72 => ⟨S4096x4x128, .f32⟩
  | 73 => ⟨S4096x4x128, .f32⟩
  | 74 => ⟨S_, .f32⟩
  | 75 => ⟨S4096x4x128, .f32⟩
  | 76 => ⟨S4096x4x128, .f32⟩
  | 77 => ⟨S4096x4x128, .f32⟩
  | 78 => ⟨S4096x4x128, .f32⟩
  | 79 => ⟨S4096x4x128, .i1⟩
  | 80 => ⟨S4096x4x128, .f32⟩
  | 81 => ⟨S4096x4x128, .f32⟩
  | 82 => ⟨S4096x4x128, .f32⟩
  | 83 => ⟨S4096x4x128, .f32⟩
  | 84 => ⟨S4096x4x128, .f32⟩
  | 85 => ⟨S4096x4x128, .f32⟩
  | 86 => ⟨S4096x4x128, .f32⟩
  | 87 => ⟨S4096x4x128, .f32⟩
  | 88 => ⟨S_, .f32⟩
  | 89 => ⟨S4096x4x128, .f32⟩
  | 90 => ⟨S4096x4x128, .i1⟩
  | 91 => ⟨S_, .f32⟩
  | 92 => ⟨S4096x4x128, .f32⟩
  | 93 => ⟨S4096x4x128, .f32⟩
  | 94 => ⟨S_, .f32⟩
  | 95 => ⟨S4096x4x128, .f32⟩
  | 96 => ⟨S4096x4x128, .i1⟩
  | 97 => ⟨S_, .f32⟩
  | 98 => ⟨S4096x4x128, .f32⟩
  | 99 => ⟨S4096x4x128, .f32⟩
  | 100 => ⟨S4096x4x128, .f32⟩
  | 101 => ⟨S4096x4x128, .f32⟩
  | 102 => ⟨S_, .f32⟩
  | 103 => ⟨S_, .f32⟩
  | 104 => ⟨S_, .i1⟩
  | 105 => ⟨S_, .f32⟩
  | 106 => ⟨S_, .f32⟩
  | 107 => ⟨S_, .f32⟩
  | 108 => ⟨S_, .f32⟩
  | 109 => ⟨S4096x4x128, .f32⟩
  | 110 => ⟨S4096x4x128, .i1⟩
  | 111 => ⟨S_, .f32⟩
  | 112 => ⟨S4096x4x128, .f32⟩
  | 113 => ⟨S4096x4x128, .f32⟩
  | 114 => ⟨S4096x4x128, .f32⟩
  | 115 => ⟨S4096x4x128, .f32⟩
  | 116 => ⟨S4096x4x128, .f32⟩
  | 117 => ⟨S_, .f32⟩
  | 118 => ⟨S4096x4x128, .f32⟩
  | 119 => ⟨S4096x4x128, .f32⟩
  | 120 => ⟨S4096x4x128, .f32⟩
  | 121 => ⟨S1x4x128, .f32⟩
  | 122 => ⟨S4096x4x128, .f32⟩
  | 123 => ⟨S4096x4x128, .f32⟩
  | 124 => ⟨S1x4x128, .f32⟩
  | 125 => ⟨S4096x4x128, .f32⟩
  | 126 => ⟨S4096x4x128, .f32⟩
  | 127 => ⟨S4096x4x128, .f32⟩
  | _ => ⟨S4096x3584, .f32⟩

abbrev hbmTy0_1 (i : Nat) : BufTy := match i % 128 with
  | 0 => ⟨S4096x4x128, .f32⟩
  | 1 => ⟨S4096x4x128, .i1⟩
  | 2 => ⟨S4096x4x128, .f32⟩
  | 3 => ⟨S4096x4x128, .f32⟩
  | 4 => ⟨S4096x4x128, .f32⟩
  | 5 => ⟨S4096x4x128, .f32⟩
  | 6 => ⟨S4096x4x128, .f32⟩
  | 7 => ⟨S4096x4x128, .f32⟩
  | 8 => ⟨S4096x4x128, .f32⟩
  | 9 => ⟨S4096x4x128, .f32⟩
  | 10 => ⟨S_, .f32⟩
  | 11 => ⟨S1x4x128, .f32⟩
  | 12 => ⟨S1x4x128, .i1⟩
  | 13 => ⟨S_, .f32⟩
  | 14 => ⟨S1x4x128, .f32⟩
  | 15 => ⟨S1x4x128, .f32⟩
  | 16 => ⟨S_, .f32⟩
  | 17 => ⟨S4096x4x128, .f32⟩
  | 18 => ⟨S4096x4x128, .i1⟩
  | 19 => ⟨S_, .f32⟩
  | 20 => ⟨S4096x4x128, .f32⟩
  | 21 => ⟨S4096x4x128, .f32⟩
  | 22 => ⟨S4096x4x128, .f32⟩
  | 23 => ⟨S4096x4x128, .f32⟩
  | 24 => ⟨S4096x4x128, .f32⟩
  | 25 => ⟨S_, .f32⟩
  | 26 => ⟨S4096x4x128, .f32⟩
  | 27 => ⟨S4096x4x128, .i1⟩
  | 28 => ⟨S_, .f32⟩
  | 29 => ⟨S4096x4x128, .f32⟩
  | 30 => ⟨S4096x4x128, .f32⟩
  | 31 => ⟨S_, .f32⟩
  | 32 => ⟨S4096x4x128, .f32⟩
  | 33 => ⟨S4096x4x128, .i1⟩
  | 34 => ⟨S_, .f32⟩
  | 35 => ⟨S4096x4x128, .f32⟩
  | 36 => ⟨S4096x4x128, .f32⟩
  | 37 => ⟨S4096x4x128, .f32⟩
  | 38 => ⟨S4096x4x128, .f32⟩
  | 39 => ⟨S4096x4x128, .f32⟩
  | 40 => ⟨S4096x4x128, .f32⟩
  | 41 => ⟨S4096x4x128, .f32⟩
  | 42 => ⟨S4096x4x128, .f32⟩
  | 43 => ⟨S_, .f32⟩
  | 44 => ⟨S_, .f32⟩
  | 45 => ⟨S4096x4x128, .f32⟩
  | 46 => ⟨S_, .i1⟩
  | 47 => ⟨S4096x4096, .i1⟩
  | 48 => ⟨S4096x4096, .i32⟩
  | 49 => ⟨S_, .i32⟩
  | 50 => ⟨S4096x4096, .i32⟩
  | 51 => ⟨S4096x4096, .i32⟩
  | 52 => ⟨S4096x4096, .i32⟩
  | 53 => ⟨S4096x4096, .i1⟩
  | 54 => ⟨S_, .i1⟩
  | 55 => ⟨S4096x4096, .i1⟩
  | 56 => ⟨S4096x4096, .i1⟩
  | 57 => ⟨S4096x4096x1x1, .i1⟩
  | 58 => ⟨S4096x1x4x128, .f32⟩
  | 59 => ⟨S1x4096x4x128, .f32⟩
  | 60 => ⟨S4096x4096x4x128, .f32⟩
  | 61 => ⟨S4096x4096x4x128, .f32⟩
  | 62 => ⟨S4096x4096x4x128, .f32⟩
  | 63 => ⟨S_, .f32⟩
  | 64 => ⟨S_, .f32⟩
  | 65 => ⟨S4096x4096x4x128, .i1⟩
  | 66 => ⟨S4096x4096x4x128, .f32⟩
  | 67 => ⟨S4096x4096x4x128, .f32⟩
  | 68 => ⟨S_, .f32⟩
  | 69 => ⟨S4096x4096x4x128, .f32⟩
  | 70 => ⟨S4096x4096x4x128, .f32⟩
  | 71 => ⟨S4096x1x4x128, .f32⟩
  | 72 => ⟨S1x4096x4x128, .f32⟩
  | 73 => ⟨S4096x4096x4x128, .f32⟩
  | 74 => ⟨S4096x4096x4x128, .f32⟩
  | 75 => ⟨S4096x4096x4x128, .f32⟩
  | 76 => ⟨S4096x4096x4x128, .f32⟩
  | 77 => ⟨S_, .f32⟩
  | 78 => ⟨S4096x4096x4, .f32⟩
  | 79 => ⟨S4x128x4096, .f32⟩
  | 80 => ⟨S4096x4x128, .f32⟩
  | 81 => ⟨S4x128, .f32⟩
  | 82 => ⟨S4096x4x128, .f32⟩
  | 83 => ⟨S_, .f32⟩
  | 84 => ⟨S4096x4, .f32⟩
  | 85 => ⟨S4096x4x1, .f32⟩
  | 86 => ⟨S_, .f32⟩
  | 87 => ⟨S4096x4x1, .f32⟩
  | 88 => ⟨S4096x4x1, .f32⟩
  | 89 => ⟨S_, .f32⟩
  | 90 => ⟨S4096x4x1, .f32⟩
  | 91 => ⟨S4096x4x1, .f32⟩
  | 92 => ⟨S4096x4x1, .f32⟩
  | 93 => ⟨S4096x4x1, .f32⟩
  | 94 => ⟨S_, .f32⟩
  | 95 => ⟨S4096x4x1, .f32⟩
  | 96 => ⟨S4096x4x1, .f32⟩
  | 97 => ⟨S4096x4x128, .f32⟩
  | 98 => ⟨S4096x4x128, .f32⟩
  | 99 => ⟨S1x4x128, .f32⟩
  | 100 => ⟨S4096x4x128, .f32⟩
  | 101 => ⟨S4096x4x128, .f32⟩
  | 102 => ⟨S4096x512, .f32⟩
  | 103 => ⟨S4096x512, .f32⟩
  | 104 => ⟨S4096x512, .f32⟩
  | 105 => ⟨S_, .f32⟩
  | 106 => ⟨S4096x512, .f32⟩
  | 107 => ⟨S4096x512, .f32⟩
  | 108 => ⟨S_, .f32⟩
  | 109 => ⟨S4096x512, .f32⟩
  | 110 => ⟨S4096x512, .f32⟩
  | 111 => ⟨S_, .f32⟩
  | 112 => ⟨S4096x512, .f32⟩
  | 113 => ⟨S4096x512, .f32⟩
  | 114 => ⟨S4096x512, .f32⟩
  | 115 => ⟨S4096x512, .f32⟩
  | 116 => ⟨S4096x512, .f32⟩
  | 117 => ⟨S4096x512, .f32⟩
  | 118 => ⟨S4096x512, .f32⟩
  | 119 => ⟨S4096x512, .f32⟩
  | 120 => ⟨S4096x512, .f32⟩
  | 121 => ⟨S4096x512, .f32⟩
  | 122 => ⟨S4096x512, .f32⟩
  | 123 => ⟨S4096x4x128, .f32⟩
  | 124 => ⟨S4096x4x128, .f32⟩
  | 125 => ⟨S_, .f32⟩
  | 126 => ⟨S4x128, .f32⟩
  | 127 => ⟨S1x4x128, .f32⟩
  | _ => ⟨S4096x3584, .f32⟩

abbrev hbmTy0_2 (i : Nat) : BufTy := match i % 128 with
  | 0 => ⟨S4096x4x128, .f32⟩
  | 1 => ⟨S4096x4x128, .f32⟩
  | 2 => ⟨S_, .f32⟩
  | 3 => ⟨S4x128, .f32⟩
  | 4 => ⟨S4096x4x128, .f32⟩
  | 5 => ⟨S_, .f32⟩
  | 6 => ⟨S4096x4, .f32⟩
  | 7 => ⟨S4096x4x1, .f32⟩
  | 8 => ⟨S4096x4x128, .f32⟩
  | 9 => ⟨S4096x4x128, .f32⟩
  | 10 => ⟨S4096x4x1, .f32⟩
  | 11 => ⟨S_, .f32⟩
  | 12 => ⟨S4096x4x1, .f32⟩
  | 13 => ⟨S4096x4x1, .f32⟩
  | 14 => ⟨S_, .f32⟩
  | 15 => ⟨S4096x4, .f32⟩
  | 16 => ⟨S4096x4x128, .f32⟩
  | 17 => ⟨S4096x4x128, .f32⟩
  | 18 => ⟨S4096x4x128, .f32⟩
  | 19 => ⟨S4096x4x128, .f32⟩
  | 20 => ⟨S4096x4x128, .f32⟩
  | 21 => ⟨S1x512, .f32⟩
  | 22 => ⟨S4x128x4096, .f32⟩
  | 23 => ⟨S4x4096x4096, .f32⟩
  | 24 => ⟨S4096x4096x4, .f32⟩
  | 25 => ⟨S4x128x4096, .f32⟩
  | 26 => ⟨S4096x4x128, .f32⟩
  | 27 => ⟨S4096x4096x4x128, .f32⟩
  | 28 => ⟨S4096x4096x4x128, .f32⟩
  | 29 => ⟨S4096x4096x4x128, .f32⟩
  | 30 => ⟨S4096x4096x4x128, .f32⟩
  | 31 => ⟨S4096x4096x4x128, .f32⟩
  | 32 => ⟨S_, .f32⟩
  | 33 => ⟨S4096x4x128, .f32⟩
  | 34 => ⟨S1x4096x4x128, .f32⟩
  | 35 => ⟨S4096x4096x4x128, .f32⟩
  | 36 => ⟨S4096x4096x4x128, .f32⟩
  | 37 => ⟨S_, .f32⟩
  | 38 => ⟨S4096x4x128, .f32⟩
  | 39 => ⟨S4096x1x4x128, .f32⟩
  | 40 => ⟨S_, .f32⟩
  | 41 => ⟨S4096x4x128, .f32⟩
  | 42 => ⟨S_, .f32⟩
  | 43 => ⟨S4096x4x128, .f32⟩
  | 44 => ⟨S4096x4096x4x128, .f32⟩
  | 45 => ⟨S_, .f32⟩
  | 46 => ⟨S4096x4096x4x128, .f32⟩
  | 47 => ⟨S4096x4096x4x128, .f32⟩
  | 48 => ⟨S_, .f32⟩
  | 49 => ⟨S4096x4x128, .f32⟩
  | 50 => ⟨S4096x1x4x128, .f32⟩
  | 51 => ⟨S4096x4096x4x128, .f32⟩
  | 52 => ⟨S_, .f32⟩
  | 53 => ⟨S4096x4x128, .f32⟩
  | 54 => ⟨S1x4096x4x128, .f32⟩
  | 55 => ⟨S_, .f32⟩
  | 56 => ⟨S4096x4x128, .f32⟩
  | 57 => ⟨S_, .f32⟩
  | 58 => ⟨S4096x4x128, .f32⟩
  | 59 => ⟨S4096x4x128, .f32⟩
  | 60 => ⟨S_, .f32⟩
  | 61 => ⟨S_, .f32⟩
  | 62 => ⟨S4096x4x128, .f32⟩
  | 63 => ⟨S4096x512, .f32⟩
  | 64 => ⟨S4096x4x128, .f32⟩
  | 65 => ⟨S4096x4x128, .f32⟩
  | 66 => ⟨S4096x4x128, .f32⟩
  | 67 => ⟨S4096x4x128, .f32⟩
  | 68 => ⟨S4096x4x128, .f32⟩
  | 69 => ⟨S_, .f32⟩
  | 70 => ⟨S4x128, .f32⟩
  | 71 => ⟨S1x4x128, .f32⟩
  | 72 => ⟨S_, .f32⟩
  | 73 => ⟨S4x128, .f32⟩
  | 74 => ⟨S_, .f32⟩
  | 75 => ⟨S4x128, .f32⟩
  | 76 => ⟨S1x4x128, .f32⟩
  | 77 => ⟨S_, .f32⟩
  | 78 => ⟨S4x128, .f32⟩
  | 79 => ⟨S4096x4x128, .f32⟩
  | 80 => ⟨S4096x4x128, .f32⟩
  | 81 => ⟨S4096x4x128, .f32⟩
  | 82 => ⟨S4096x512, .f32⟩
  | 83 => ⟨S4x128, .f32⟩
  | 84 => ⟨S4x128, .f32⟩
  | 85 => ⟨S4x128, .f32⟩
  | 86 => ⟨S4x128, .f32⟩
  | 87 => ⟨S4096x512, .f32⟩
  | 88 => ⟨S4096x512, .f32⟩
  | 89 => ⟨S4096x512, .f32⟩
  | 90 => ⟨S4096x512, .f32⟩
  | 91 => ⟨S4096x512, .f32⟩
  | 92 => ⟨S512, .f32⟩
  | 93 => ⟨S1x512, .f32⟩
  | 94 => ⟨S_, .f32⟩
  | 95 => ⟨S2x512, .f32⟩
  | 96 => ⟨S_, .f32⟩
  | 97 => ⟨S_, .f32⟩
  | 98 => ⟨S2x512, .f32⟩
  | 99 => ⟨S2x512, .f32⟩
  | 100 => ⟨S2x512, .f32⟩
  | 101 => ⟨S2x512, .f32⟩
  | 102 => ⟨S_, .f32⟩
  | 103 => ⟨S512, .f32⟩
  | 104 => ⟨S1x512, .f32⟩
  | 105 => ⟨S1x512, .f32⟩
  | 106 => ⟨S2x512, .f32⟩
  | 107 => ⟨S2x512, .f32⟩
  | 108 => ⟨S_, .f32⟩
  | 109 => ⟨S512, .f32⟩
  | 110 => ⟨S2x512, .f32⟩
  | 111 => ⟨S2x512, .f32⟩
  | 112 => ⟨S2x512, .f32⟩
  | 113 => ⟨S4096x512, .bf16⟩
  | 114 => ⟨S4096x512, .bf16⟩
  | 115 => ⟨S4096x512, .bf16⟩
  | 116 => ⟨S4096x512, .bf16⟩
  | _ => ⟨S4096x3584, .f32⟩

abbrev hbmTy (i : Nat) : BufTy := match i / 128 with
  | 0 => hbmTy0_0 i
  | 1 => hbmTy0_1 i
  | 2 => hbmTy0_2 i
  | _ => ⟨S4096x3584, .f32⟩

abbrev bufTy : (tb : Table) → Fin (tcTables nBuf tb) → BufTy
  | .hbm, ⟨i, _⟩ => hbmTy i
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_call0_call0_cst : Ref sig .tc := ⟨.hbm, 46, rfl⟩
abbrev main_call0_call0_v0 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_v36_2 : Ref sig .tc := ⟨.hbm, 59, rfl⟩
abbrev main_call1_cst_1 : Ref sig .tc := ⟨.hbm, 60, rfl⟩
abbrev main_call1_v6 : Ref sig .tc := ⟨.hbm, 61, rfl⟩
abbrev main_call1_v7 : Ref sig .tc := ⟨.hbm, 62, rfl⟩
abbrev main_v36_1 : Ref sig .tc := ⟨.hbm, 63, rfl⟩
abbrev main_v36_0 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_9 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_call2_v0 : Ref sig .tc := ⟨.hbm, 73, rfl⟩
abbrev main_call2_call0_cst : Ref sig .tc := ⟨.hbm, 74, rfl⟩
abbrev main_call2_call0_v0 : Ref sig .tc := ⟨.hbm, 75, rfl⟩
abbrev main_call2_call0_v1 : Ref sig .tc := ⟨.hbm, 76, rfl⟩
abbrev main_call2_call0_v2 : Ref sig .tc := ⟨.hbm, 77, rfl⟩
abbrev main_call2_call0_v3 : Ref sig .tc := ⟨.hbm, 78, rfl⟩
abbrev main_call2_call0_v4 : Ref sig .tc := ⟨.hbm, 79, rfl⟩
abbrev main_call2_call0_v5 : Ref sig .tc := ⟨.hbm, 80, rfl⟩
abbrev main_call2_call0_v6 : Ref sig .tc := ⟨.hbm, 81, rfl⟩
abbrev main_call2_call0_v7 : Ref sig .tc := ⟨.hbm, 82, rfl⟩
abbrev main_call2_call0_v8 : Ref sig .tc := ⟨.hbm, 83, rfl⟩
abbrev main_call2_call0_v9 : Ref sig .tc := ⟨.hbm, 84, rfl⟩
abbrev main_call2_call0_v10 : Ref sig .tc := ⟨.hbm, 85, rfl⟩
abbrev main_call2_call0_v11 : Ref sig .tc := ⟨.hbm, 86, rfl⟩
abbrev main_call2_v1_0 : Ref sig .tc := ⟨.hbm, 87, rfl⟩
abbrev main_call2_call0_cst_0 : Ref sig .tc := ⟨.hbm, 88, rfl⟩
abbrev main_call2_call0_v13 : Ref sig .tc := ⟨.hbm, 89, rfl⟩
abbrev main_call2_call0_v14 : Ref sig .tc := ⟨.hbm, 90, rfl⟩
abbrev main_call2_call0_cst_1 : Ref sig .tc := ⟨.hbm, 91, rfl⟩
abbrev main_call2_call0_v15 : Ref sig .tc := ⟨.hbm, 92, rfl⟩
abbrev main_call2_call0_v16 : Ref sig .tc := ⟨.hbm, 93, rfl⟩
abbrev main_call2_call0_cst_2 : Ref sig .tc := ⟨.hbm, 94, rfl⟩
abbrev main_call2_call0_v17 : Ref sig .tc := ⟨.hbm, 95, rfl⟩
abbrev main_call2_call0_v18 : Ref sig .tc := ⟨.hbm, 96, rfl⟩
abbrev main_call2_call0_cst_3 : Ref sig .tc := ⟨.hbm, 97, rfl⟩
abbrev main_call2_call0_v19 : Ref sig .tc := ⟨.hbm, 98, rfl⟩
abbrev main_call2_call0_v20 : Ref sig .tc := ⟨.hbm, 99, rfl⟩
abbrev main_call2_call0_v21 : Ref sig .tc := ⟨.hbm, 100, rfl⟩
abbrev main_v44_1 : Ref sig .tc := ⟨.hbm, 101, rfl⟩
abbrev main_call2_call0_cst_4 : Ref sig .tc := ⟨.hbm, 102, rfl⟩
abbrev main_call2_call0_cst_5 : Ref sig .tc := ⟨.hbm, 103, rfl⟩
abbrev main_call2_call0_v23 : Ref sig .tc := ⟨.hbm, 104, rfl⟩
abbrev main_call2_call0_cst_6 : Ref sig .tc := ⟨.hbm, 105, rfl⟩
abbrev main_call2_call0_cst_7 : Ref sig .tc := ⟨.hbm, 106, rfl⟩
abbrev main_call2_call0_v24 : Ref sig .tc := ⟨.hbm, 107, rfl⟩
abbrev main_call2_call0_cst_8 : Ref sig .tc := ⟨.hbm, 108, rfl⟩
abbrev main_call2_call0_v25 : Ref sig .tc := ⟨.hbm, 109, rfl⟩
abbrev main_call2_call0_v26 : Ref sig .tc := ⟨.hbm, 110, rfl⟩
abbrev main_call2_call0_cst_9 : Ref sig .tc := ⟨.hbm, 111, rfl⟩
abbrev main_call2_call0_v27 : Ref sig .tc := ⟨.hbm, 112, rfl⟩
abbrev main_call2_call0_v28 : Ref sig .tc := ⟨.hbm, 113, rfl⟩
abbrev main_call2_call0_v29 : Ref sig .tc := ⟨.hbm, 114, rfl⟩
abbrev main_call2_call0_v30 : Ref sig .tc := ⟨.hbm, 115, rfl⟩
abbrev main_call2_call0_v31 : Ref sig .tc := ⟨.hbm, 116, rfl⟩
abbrev main_call2_call0_cst_10 : Ref sig .tc := ⟨.hbm, 117, rfl⟩
abbrev main_call2_call0_v32 : Ref sig .tc := ⟨.hbm, 118, rfl⟩
abbrev main_v44_2 : Ref sig .tc := ⟨.hbm, 119, rfl⟩
abbrev main_v44_0 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_cst_10 : Ref sig .tc := ⟨.hbm, 138, rfl⟩
abbrev main_v62 : Ref sig .tc := ⟨.hbm, 139, rfl⟩
abbrev main_v63 : Ref sig .tc := ⟨.hbm, 140, rfl⟩
abbrev main_cst_11 : Ref sig .tc := ⟨.hbm, 141, rfl⟩
abbrev main_v64 : Ref sig .tc := ⟨.hbm, 142, rfl⟩
abbrev main_v65 : Ref sig .tc := ⟨.hbm, 143, rfl⟩
abbrev main_cst_12 : Ref sig .tc := ⟨.hbm, 144, rfl⟩
abbrev main_v66 : Ref sig .tc := ⟨.hbm, 145, rfl⟩
abbrev main_v67 : Ref sig .tc := ⟨.hbm, 146, rfl⟩
abbrev main_cst_13 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_cst_14 : Ref sig .tc := ⟨.hbm, 153, rfl⟩
abbrev main_v73 : Ref sig .tc := ⟨.hbm, 154, rfl⟩
abbrev main_v74 : Ref sig .tc := ⟨.hbm, 155, rfl⟩
abbrev main_cst_15 : Ref sig .tc := ⟨.hbm, 156, rfl⟩
abbrev main_v75 : Ref sig .tc := ⟨.hbm, 157, rfl⟩
abbrev main_v76 : Ref sig .tc := ⟨.hbm, 158, rfl⟩
abbrev main_cst_16 : Ref sig .tc := ⟨.hbm, 159, rfl⟩
abbrev main_v77 : Ref sig .tc := ⟨.hbm, 160, rfl⟩
abbrev main_v78 : Ref sig .tc := ⟨.hbm, 161, rfl⟩
abbrev main_cst_17 : Ref sig .tc := ⟨.hbm, 162, rfl⟩
abbrev main_v79 : Ref sig .tc := ⟨.hbm, 163, rfl⟩
abbrev main_v80 : Ref sig .tc := ⟨.hbm, 164, rfl⟩
abbrev main_v81 : Ref sig .tc := ⟨.hbm, 165, rfl⟩
abbrev main_v82 : Ref sig .tc := ⟨.hbm, 166, rfl⟩
abbrev main_v83 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_call3_call0_cst : Ref sig .tc := ⟨.hbm, 171, rfl⟩
abbrev main_call3_call0_v0 : Ref sig .tc := ⟨.hbm, 172, rfl⟩
abbrev main_v87 : Ref sig .tc := ⟨.hbm, 173, rfl⟩
abbrev main_c : Ref sig .tc := ⟨.hbm, 174, rfl⟩
abbrev main_v88 : Ref sig .tc := ⟨.hbm, 175, rfl⟩
abbrev main_call4_v0 : Ref sig .tc := ⟨.hbm, 176, rfl⟩
abbrev main_call4_c : Ref sig .tc := ⟨.hbm, 177, rfl⟩
abbrev main_call4_v1 : Ref sig .tc := ⟨.hbm, 178, rfl⟩
abbrev main_call4_v2 : Ref sig .tc := ⟨.hbm, 179, rfl⟩
abbrev main_call4_v3 : Ref sig .tc := ⟨.hbm, 180, rfl⟩
abbrev main_call4_v4 : Ref sig .tc := ⟨.hbm, 181, rfl⟩
abbrev main_call4_c_0 : Ref sig .tc := ⟨.hbm, 182, rfl⟩
abbrev main_call4_v5 : Ref sig .tc := ⟨.hbm, 183, rfl⟩
abbrev main_v89 : Ref sig .tc := ⟨.hbm, 184, rfl⟩
abbrev main_v90 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_v94 : Ref sig .tc := ⟨.hbm, 189, rfl⟩
abbrev main_v95 : Ref sig .tc := ⟨.hbm, 190, rfl⟩
abbrev main_cst_18 : Ref sig .tc := ⟨.hbm, 191, rfl⟩
abbrev main_call5_v0 : Ref sig .tc := ⟨.hbm, 192, rfl⟩
abbrev main_v96_1 : Ref sig .tc := ⟨.hbm, 193, rfl⟩
abbrev main_call5_v2 : Ref sig .tc := ⟨.hbm, 194, rfl⟩
abbrev main_v96_0 : Ref sig .tc := ⟨.hbm, 195, rfl⟩
abbrev main_call5_cst : Ref sig .tc := ⟨.hbm, 196, rfl⟩
abbrev main_v96_2 : Ref sig .tc := ⟨.hbm, 197, rfl⟩
abbrev main_v97 : Ref sig .tc := ⟨.hbm, 198, rfl⟩
abbrev main_v98 : Ref sig .tc := ⟨.hbm, 199, rfl⟩
abbrev main_v99 : Ref sig .tc := ⟨.hbm, 200, rfl⟩
abbrev main_v100 : Ref sig .tc := ⟨.hbm, 201, rfl⟩
abbrev main_v101 : Ref sig .tc := ⟨.hbm, 202, rfl⟩
abbrev main_v102 : Ref sig .tc := ⟨.hbm, 203, rfl⟩
abbrev main_v103 : Ref sig .tc := ⟨.hbm, 204, rfl⟩
abbrev main_cst_19 : Ref sig .tc := ⟨.hbm, 205, rfl⟩
abbrev main_v104 : Ref sig .tc := ⟨.hbm, 206, rfl⟩
abbrev main_v105 : Ref sig .tc := ⟨.hbm, 207, rfl⟩
abbrev main_v106 : Ref sig .tc := ⟨.hbm, 208, rfl⟩
abbrev main_v107 : Ref sig .tc := ⟨.hbm, 209, rfl⟩
abbrev main_v108 : Ref sig .tc := ⟨.hbm, 210, rfl⟩
abbrev main_cst_20 : Ref sig .tc := ⟨.hbm, 211, rfl⟩
abbrev main_v109 : Ref sig .tc := ⟨.hbm, 212, rfl⟩
abbrev main_v110 : Ref sig .tc := ⟨.hbm, 213, rfl⟩
abbrev main_cst_21 : Ref sig .tc := ⟨.hbm, 214, rfl⟩
abbrev main_v111 : Ref sig .tc := ⟨.hbm, 215, rfl⟩
abbrev main_v112 : Ref sig .tc := ⟨.hbm, 216, rfl⟩
abbrev main_cst_22 : Ref sig .tc := ⟨.hbm, 217, rfl⟩
abbrev main_v113 : Ref sig .tc := ⟨.hbm, 218, rfl⟩
abbrev main_v114 : Ref sig .tc := ⟨.hbm, 219, rfl⟩
abbrev main_v115 : Ref sig .tc := ⟨.hbm, 220, rfl⟩
abbrev main_v116 : Ref sig .tc := ⟨.hbm, 221, rfl⟩
abbrev main_cst_23 : Ref sig .tc := ⟨.hbm, 222, rfl⟩
abbrev main_v117 : Ref sig .tc := ⟨.hbm, 223, rfl⟩
abbrev main_v118 : Ref sig .tc := ⟨.hbm, 224, rfl⟩
abbrev main_v119 : Ref sig .tc := ⟨.hbm, 225, rfl⟩
abbrev main_v120 : Ref sig .tc := ⟨.hbm, 226, rfl⟩
abbrev main_v121 : Ref sig .tc := ⟨.hbm, 227, rfl⟩
abbrev main_v122 : Ref sig .tc := ⟨.hbm, 228, rfl⟩
abbrev main_v123 : Ref sig .tc := ⟨.hbm, 229, rfl⟩
abbrev main_v124 : Ref sig .tc := ⟨.hbm, 230, rfl⟩
abbrev main_call6_v0 : Ref sig .tc := ⟨.hbm, 231, rfl⟩
abbrev main_call6_v1 : Ref sig .tc := ⟨.hbm, 232, rfl⟩
abbrev main_call6_cst : Ref sig .tc := ⟨.hbm, 233, rfl⟩
abbrev main_call6_v2 : Ref sig .tc := ⟨.hbm, 234, rfl⟩
abbrev main_call6_v3 : Ref sig .tc := ⟨.hbm, 235, rfl⟩
abbrev main_call6_cst_0 : Ref sig .tc := ⟨.hbm, 236, rfl⟩
abbrev main_call6_v4 : Ref sig .tc := ⟨.hbm, 237, rfl⟩
abbrev main_v125_2 : Ref sig .tc := ⟨.hbm, 238, rfl⟩
abbrev main_call6_cst_1 : Ref sig .tc := ⟨.hbm, 239, rfl⟩
abbrev main_call6_v6 : Ref sig .tc := ⟨.hbm, 240, rfl⟩
abbrev main_call6_v7 : Ref sig .tc := ⟨.hbm, 241, rfl⟩
abbrev main_v125_1 : Ref sig .tc := ⟨.hbm, 242, rfl⟩
abbrev main_v125_0 : Ref sig .tc := ⟨.hbm, 243, rfl⟩
abbrev main_v126 : Ref sig .tc := ⟨.hbm, 244, rfl⟩
abbrev main_v127 : Ref sig .tc := ⟨.hbm, 245, rfl⟩
abbrev main_v128 : Ref sig .tc := ⟨.hbm, 246, rfl⟩
abbrev main_call7_v0 : Ref sig .tc := ⟨.hbm, 247, rfl⟩
abbrev main_call7_v1 : Ref sig .tc := ⟨.hbm, 248, rfl⟩
abbrev main_call7_v2 : Ref sig .tc := ⟨.hbm, 249, rfl⟩
abbrev main_v129 : Ref sig .tc := ⟨.hbm, 250, rfl⟩
abbrev main_v130 : Ref sig .tc := ⟨.hbm, 251, rfl⟩
abbrev main_v131 : Ref sig .tc := ⟨.hbm, 252, rfl⟩
abbrev main_cst_24 : Ref sig .tc := ⟨.hbm, 253, rfl⟩
abbrev main_v132 : Ref sig .tc := ⟨.hbm, 254, rfl⟩
abbrev main_v133 : Ref sig .tc := ⟨.hbm, 255, rfl⟩
abbrev main_v134 : Ref sig .tc := ⟨.hbm, 256, rfl⟩
abbrev main_v135 : Ref sig .tc := ⟨.hbm, 257, rfl⟩
abbrev main_cst_25 : Ref sig .tc := ⟨.hbm, 258, rfl⟩
abbrev main_v136 : Ref sig .tc := ⟨.hbm, 259, rfl⟩
abbrev main_v137 : Ref sig .tc := ⟨.hbm, 260, rfl⟩
abbrev main_cst_26 : Ref sig .tc := ⟨.hbm, 261, rfl⟩
abbrev main_v138 : Ref sig .tc := ⟨.hbm, 262, rfl⟩
abbrev main_v139 : Ref sig .tc := ⟨.hbm, 263, rfl⟩
abbrev main_v140 : Ref sig .tc := ⟨.hbm, 264, rfl⟩
abbrev main_v141 : Ref sig .tc := ⟨.hbm, 265, rfl⟩
abbrev main_v142 : Ref sig .tc := ⟨.hbm, 266, rfl⟩
abbrev main_cst_27 : Ref sig .tc := ⟨.hbm, 267, rfl⟩
abbrev main_v143 : Ref sig .tc := ⟨.hbm, 268, rfl⟩
abbrev main_v144 : Ref sig .tc := ⟨.hbm, 269, rfl⟩
abbrev main_cst_28 : Ref sig .tc := ⟨.hbm, 270, rfl⟩
abbrev main_v145 : Ref sig .tc := ⟨.hbm, 271, rfl⟩
abbrev main_v146 : Ref sig .tc := ⟨.hbm, 272, rfl⟩
abbrev main_v147 : Ref sig .tc := ⟨.hbm, 273, rfl⟩
abbrev main_v148 : Ref sig .tc := ⟨.hbm, 274, rfl⟩
abbrev main_v149 : Ref sig .tc := ⟨.hbm, 275, rfl⟩
abbrev main_v150 : Ref sig .tc := ⟨.hbm, 276, rfl⟩
abbrev main_v151 : Ref sig .tc := ⟨.hbm, 277, rfl⟩
abbrev main_v152 : Ref sig .tc := ⟨.hbm, 278, rfl⟩
abbrev main_v153 : Ref sig .tc := ⟨.hbm, 279, rfl⟩
abbrev main_v154 : Ref sig .tc := ⟨.hbm, 280, rfl⟩
abbrev main_v155 : Ref sig .tc := ⟨.hbm, 281, rfl⟩
abbrev main_v156 : Ref sig .tc := ⟨.hbm, 282, rfl⟩
abbrev main_v157 : Ref sig .tc := ⟨.hbm, 283, rfl⟩
abbrev main_v158 : Ref sig .tc := ⟨.hbm, 284, rfl⟩
abbrev main_v159 : Ref sig .tc := ⟨.hbm, 285, rfl⟩
abbrev main_v160 : Ref sig .tc := ⟨.hbm, 286, rfl⟩
abbrev main_v161 : Ref sig .tc := ⟨.hbm, 287, rfl⟩
abbrev main_cst_29 : Ref sig .tc := ⟨.hbm, 288, rfl⟩
abbrev main_v162 : Ref sig .tc := ⟨.hbm, 289, rfl⟩
abbrev main_v163 : Ref sig .tc := ⟨.hbm, 290, rfl⟩
abbrev main_v164 : Ref sig .tc := ⟨.hbm, 291, rfl⟩
abbrev main_v165 : Ref sig .tc := ⟨.hbm, 292, rfl⟩
abbrev main_cst_30 : Ref sig .tc := ⟨.hbm, 293, rfl⟩
abbrev main_v166 : Ref sig .tc := ⟨.hbm, 294, rfl⟩
abbrev main_v167 : Ref sig .tc := ⟨.hbm, 295, rfl⟩
abbrev main_cst_31 : Ref sig .tc := ⟨.hbm, 296, rfl⟩
abbrev main_v168 : Ref sig .tc := ⟨.hbm, 297, rfl⟩
abbrev main_cst_32 : Ref sig .tc := ⟨.hbm, 298, rfl⟩
abbrev main_v169 : Ref sig .tc := ⟨.hbm, 299, rfl⟩
abbrev main_v170 : Ref sig .tc := ⟨.hbm, 300, rfl⟩
abbrev main_call8_cst : Ref sig .tc := ⟨.hbm, 301, rfl⟩
abbrev main_call8_v0 : Ref sig .tc := ⟨.hbm, 302, rfl⟩
abbrev main_v171 : Ref sig .tc := ⟨.hbm, 303, rfl⟩
abbrev main_cst_33 : Ref sig .tc := ⟨.hbm, 304, rfl⟩
abbrev main_v172 : Ref sig .tc := ⟨.hbm, 305, rfl⟩
abbrev main_v173 : Ref sig .tc := ⟨.hbm, 306, rfl⟩
abbrev main_v174 : Ref sig .tc := ⟨.hbm, 307, rfl⟩
abbrev main_cst_34 : Ref sig .tc := ⟨.hbm, 308, rfl⟩
abbrev main_v175 : Ref sig .tc := ⟨.hbm, 309, rfl⟩
abbrev main_v176 : Ref sig .tc := ⟨.hbm, 310, rfl⟩
abbrev main_cst_35 : Ref sig .tc := ⟨.hbm, 311, rfl⟩
abbrev main_v177 : Ref sig .tc := ⟨.hbm, 312, rfl⟩
abbrev main_cst_36 : Ref sig .tc := ⟨.hbm, 313, rfl⟩
abbrev main_v178 : Ref sig .tc := ⟨.hbm, 314, rfl⟩
abbrev main_v179 : Ref sig .tc := ⟨.hbm, 315, rfl⟩
abbrev main_call9_call0_cst : Ref sig .tc := ⟨.hbm, 316, rfl⟩
abbrev main_call9_call0_v0 : Ref sig .tc := ⟨.hbm, 317, rfl⟩
abbrev main_v180 : Ref sig .tc := ⟨.hbm, 318, rfl⟩
abbrev main_v181 : Ref sig .tc := ⟨.hbm, 319, rfl⟩
abbrev main_v182 : Ref sig .tc := ⟨.hbm, 320, rfl⟩
abbrev main_v183 : Ref sig .tc := ⟨.hbm, 321, rfl⟩
abbrev main_v184 : Ref sig .tc := ⟨.hbm, 322, rfl⟩
abbrev main_v185 : Ref sig .tc := ⟨.hbm, 323, rfl⟩
abbrev main_v186 : Ref sig .tc := ⟨.hbm, 324, rfl⟩
abbrev main_cst_37 : Ref sig .tc := ⟨.hbm, 325, rfl⟩
abbrev main_v187 : Ref sig .tc := ⟨.hbm, 326, rfl⟩
abbrev main_v188 : Ref sig .tc := ⟨.hbm, 327, rfl⟩
abbrev main_cst_38 : Ref sig .tc := ⟨.hbm, 328, rfl⟩
abbrev main_v189 : Ref sig .tc := ⟨.hbm, 329, rfl⟩
abbrev main_cst_39 : Ref sig .tc := ⟨.hbm, 330, rfl⟩
abbrev main_v190 : Ref sig .tc := ⟨.hbm, 331, rfl⟩
abbrev main_v191 : Ref sig .tc := ⟨.hbm, 332, rfl⟩
abbrev main_cst_40 : Ref sig .tc := ⟨.hbm, 333, rfl⟩
abbrev main_v192 : Ref sig .tc := ⟨.hbm, 334, rfl⟩
abbrev main_call10_v0 : Ref sig .tc := ⟨.hbm, 335, rfl⟩
abbrev main_call10_v1 : Ref sig .tc := ⟨.hbm, 336, rfl⟩
abbrev main_v193 : Ref sig .tc := ⟨.hbm, 337, rfl⟩
abbrev main_v194 : Ref sig .tc := ⟨.hbm, 338, rfl⟩
abbrev main_v195 : Ref sig .tc := ⟨.hbm, 339, rfl⟩
abbrev main_v196 : Ref sig .tc := ⟨.hbm, 340, rfl⟩
abbrev main_v197 : Ref sig .tc := ⟨.hbm, 341, rfl⟩
abbrev main_v198 : Ref sig .tc := ⟨.hbm, 342, rfl⟩
abbrev main_v199 : Ref sig .tc := ⟨.hbm, 343, rfl⟩
abbrev main_call11_v0 : Ref sig .tc := ⟨.hbm, 344, rfl⟩
abbrev main_call11_v1 : Ref sig .tc := ⟨.hbm, 345, rfl⟩
abbrev main_call11_v2 : Ref sig .tc := ⟨.hbm, 346, rfl⟩
abbrev main_v200 : Ref sig .tc := ⟨.hbm, 347, rfl⟩
abbrev main_v201 : Ref sig .tc := ⟨.hbm, 348, rfl⟩
abbrev main_v202 : Ref sig .tc := ⟨.hbm, 349, rfl⟩
abbrev main_cst_41 : Ref sig .tc := ⟨.hbm, 350, rfl⟩
abbrev main_v203 : Ref sig .tc := ⟨.hbm, 351, rfl⟩
abbrev main_call12_call0_cst : Ref sig .tc := ⟨.hbm, 352, rfl⟩
abbrev main_call12_call0_v0 : Ref sig .tc := ⟨.hbm, 353, rfl⟩
abbrev main_v204 : Ref sig .tc := ⟨.hbm, 354, rfl⟩
abbrev main_v205 : Ref sig .tc := ⟨.hbm, 355, rfl⟩
abbrev main_v206 : Ref sig .tc := ⟨.hbm, 356, rfl⟩
abbrev main_v207 : Ref sig .tc := ⟨.hbm, 357, rfl⟩
abbrev main_cst_42 : Ref sig .tc := ⟨.hbm, 358, rfl⟩
abbrev main_v208 : Ref sig .tc := ⟨.hbm, 359, rfl⟩
abbrev main_v209 : Ref sig .tc := ⟨.hbm, 360, rfl⟩
abbrev main_v210 : Ref sig .tc := ⟨.hbm, 361, rfl⟩
abbrev main_v211 : Ref sig .tc := ⟨.hbm, 362, rfl⟩
abbrev main_v212 : Ref sig .tc := ⟨.hbm, 363, rfl⟩
abbrev main_cst_43 : Ref sig .tc := ⟨.hbm, 364, rfl⟩
abbrev main_v213 : Ref sig .tc := ⟨.hbm, 365, rfl⟩
abbrev main_v214 : Ref sig .tc := ⟨.hbm, 366, rfl⟩
abbrev main_v215 : Ref sig .tc := ⟨.hbm, 367, rfl⟩
abbrev main_v216 : Ref sig .tc := ⟨.hbm, 368, rfl⟩
abbrev main_v217 : Ref sig .tc := ⟨.hbm, 369, rfl⟩
abbrev main_v218 : Ref sig .tc := ⟨.hbm, 370, rfl⟩
abbrev main_v219 : Ref sig .tc := ⟨.hbm, 371, rfl⟩
abbrev main_v220 : Ref sig .tc := ⟨.hbm, 372, rfl⟩

abbrev nD : Nat := 1
abbrev τ : Topo := Topo.v7x

variable {F : FTy → Type} [FloatOps F]
-- ==== Kernel2.lean ====
abbrev S4096x1024 : Shape := ⟨2, ![4096, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S4096x4096 : Shape := ⟨2, ![4096, 4096]⟩
abbrev S_ : Shape := ⟨0, ![]⟩
abbrev S1x1024x1024 : Shape := ⟨3, ![1, 1024, 1024]⟩
abbrev S1024x1024 : Shape := ⟨2, ![1024, 1024]⟩
abbrev S512x1024 : Shape := ⟨2, ![512, 1024]⟩

abbrev nBuf : Space → Nat
  | .hbm => 14
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4x1024x1024, .bf16⟩
  | .hbm, ⟨3, _⟩ => ⟨S4096x1024, .bf16⟩
  | .hbm, ⟨4, _⟩ => ⟨S4096x1024, .f32⟩
  | .hbm, ⟨5, _⟩ => ⟨S4x1024x1024, .f32⟩
  | .hbm, ⟨6, _⟩ => ⟨S1024x4x1024, .f32⟩
  | .hbm, ⟨7, _⟩ => ⟨S1024x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .bf16⟩
  | .hbm, ⟨13, _⟩ => ⟨S4096x4096, .bf16⟩
  | .local _ .vmem, ⟨0, _⟩ => ⟨S4096x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  let c0_i32 : BitVec 32 := 0#32
  let v1 : BitVec 32 := Scalar.addi v0 c0_i32
  v1
def k0_off1 (i : grid0.Coords) (c0_i32 : BitVec 32) : Fin 2 → Nat :=
  let arg1 : BitVec 32 := BitVec.ofNat 32 (i 1).val
  let c1024_i32 : BitVec 32 := 1024#32
  let v0 : BitVec 32 := Scalar.muli arg1 c1024_i32
  let v1 : BitVec 32 := Scalar.addi v0 c0_i32
  let v2 : BitVec 32 := v1
  let v3 : Index := Scalar.indexCast v2
  let c0 : Index := 0#32
  ![v3.toNat, 0]
def k0_mult2 (i : grid0.Coords) : BitVec 32 :=
  let arg1 : BitVec 32 := BitVec.ofNat 32 (i 1).val
  let c1024_i32_8 : BitVec 32 := 1024#32
  let v16 : BitVec 32 := Scalar.muli arg1 c1024_i32_8
  let c512_i32 : BitVec 32 := 512#32
  let v17 : BitVec 32 := Scalar.addi v16 c512_i32
  v17
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4096x1024 : Shape := ⟨2, ![4096, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4x1024x1024, .bf16⟩
  | .hbm, ⟨3, _⟩ => ⟨S4096x1024, .bf16⟩
  | .hbm, ⟨4, _⟩ => ⟨S4096x1024, .f32⟩
  | .hbm, ⟨5, _⟩ => ⟨S4x1024x1024, .f32⟩
  | .hbm, ⟨6, _⟩ => ⟨S4x1024x1024, .f32⟩
  | .hbm, ⟨7, _⟩ => ⟨S4096x1024, .f32⟩
  | .hbm, ⟨8, _⟩ => ⟨S1024x4x1024, .f32⟩
  | .hbm, ⟨9, _⟩ => ⟨S1024x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .i1⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_v0 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Kernel3.lean ====
abbrev S4096x4096 : Shape := ⟨2, ![4096, 4096]⟩
abbrev S4096x1024 : Shape := ⟨2, ![4096, 1024]⟩
abbrev S4x1024x1024 : Shape := ⟨3, ![4, 1024, 1024]⟩
abbrev S1x1024x1024 : Shape := ⟨3, ![1, 1024, 1024]⟩
abbrev S4096x512 : Shape := ⟨2, ![4096, 512]⟩
abbrev S512x1024 : Shape := ⟨2, ![512, 1024]⟩
abbrev S1x512x1024 : Shape := ⟨3, ![1, 512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x1024x1024, .f32⟩
  | .hbm, ⟨3, _⟩ => ⟨S4x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .bf16⟩
  | .local _ .vmem, ⟨6, _⟩ => ⟨S1x1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S4096x4096 : Shape := ⟨2, ![4096, 4096]⟩
abbrev S4096x1024 : Shape := ⟨2, ![4096, 1024]⟩
abbrev S_ : Shape := ⟨0, ![]⟩
abbrev S4x1024x1024 : Shape := ⟨3, ![4, 1024, 1024]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .f32⟩
  | .hbm, ⟨3, _⟩ => ⟨S4096x1024, .f32⟩
  | .hbm, ⟨4, _⟩ => ⟨S_, .f32⟩
  | .hbm, ⟨5, _⟩ => ⟨S4x1024x1024, .f32⟩
  | .hbm, ⟨6, _⟩ => ⟨S4096x1024, .f32⟩
  | .hbm, ⟨7, _⟩ => ⟨S4096x1024, .f32⟩
  | .hbm, ⟨8, _⟩ => ⟨S1024x4096, .f32⟩
  | .hbm, ⟨9, _⟩ => ⟨S4096x1024, .f32⟩
  | .hbm, ⟨10, _⟩ => ⟨S4x1024x1024, .f32⟩
  | .hbm, ⟨11, _⟩ => ⟨S4x1024x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S4096x1024 : Shape := ⟨2, ![4096, 1024]⟩
abbrev S4096x4096 : Shape := ⟨2, ![4096, 4096]⟩
abbrev S4x1024x1024 : Shape := ⟨3, ![4, 1024, 1024]⟩
abbrev S1x1024x1024 : Shape := ⟨3, ![1, 1024, 1024]⟩
abbrev S4096x512 : Shape := ⟨2, ![4096, 512]⟩
abbrev S512x1024 : Shape := ⟨2, ![512, 1024]⟩
abbrev S1x512x1024 : Shape := ⟨3, ![1, 512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x1024x1024, .f32⟩
  | .hbm, ⟨3, _⟩ => ⟨S4x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .bf16⟩
  | .local _ .vmem, ⟨6, _⟩ => ⟨S1x1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S4096x1024 : Shape := ⟨2, ![4096, 1024]⟩
abbrev S4096x4096 : Shape := ⟨2, ![4096, 4096]⟩
abbrev S_ : Shape := ⟨0, ![]⟩
abbrev S4x1024x1024 : Shape := ⟨3, ![4, 1024, 1024]⟩
abbrev S1024x4x1024 : Shape := ⟨3, ![1024, 4, 1024]⟩
abbrev S1024x4096 : Shape := ⟨2, ![1024, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S4x1024x1024, .f32⟩
  | .hbm, ⟨6, _⟩ => ⟨S1024x4x1024, .f32⟩
  | .hbm, ⟨7, _⟩ => ⟨S1024x4096, .f32⟩
  | .hbm, ⟨8, _⟩ => ⟨S4096x4096, .f32⟩
  | .hbm, ⟨9, _⟩ => ⟨S4096x1024, .f32⟩
  | .hbm, ⟨10, _⟩ => ⟨S1024x4096, .f32⟩
  | .hbm, ⟨11, _⟩ => ⟨S1024x4x1024, .f32⟩
  | .hbm, ⟨12, _⟩ => ⟨S4x1024x1024, .f32⟩
  | .hbm, ⟨13, _⟩ => ⟨S4x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel5.lean ====
abbrev S4096x1024 : Shape := ⟨2, ![4096, 1024]⟩
abbrev S4096x3584 : Shape := ⟨2, ![4096, 3584]⟩
abbrev S4x1024x896 : Shape := ⟨3, ![4, 1024, 896]⟩
abbrev S4096x896 : Shape := ⟨2, ![4096, 896]⟩
abbrev S1x1024x896 : Shape := ⟨3, ![1, 1024, 896]⟩
abbrev S4096x512 : Shape := ⟨2, ![4096, 512]⟩
abbrev S512x896 : Shape := ⟨2, ![512, 896]⟩
abbrev S1x512x896 : Shape := ⟨3, ![1, 512, 896]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x3584, .bf16⟩
  | .hbm, ⟨2, _⟩ => ⟨S4x1024x896, .f32⟩
  | .hbm, ⟨3, _⟩ => ⟨S4x1024x896, .bf16⟩
  | .local _ .vmem, ⟨0, _⟩ => ⟨S4096x1024, .bf16⟩
  | .local _ .vmem, ⟨1, _⟩ => ⟨S4096x896, .bf16⟩
  | .local _ .vmem, ⟨2, _⟩ => ⟨S4096x896, .bf16⟩
  | .local _ .vmem, ⟨3, _⟩ => ⟨S1x1024x896, .f32⟩
  | .local _ .vmem, ⟨4, _⟩ => ⟨S1x1024x896, .f32⟩
  | .local _ .vmem, ⟨5, _⟩ => ⟨S1x1024x896, .bf16⟩
  | .local _ .vmem, ⟨6, _⟩ => ⟨S1x1024x896, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S4096x1024 : Shape := ⟨2, ![4096, 1024]⟩
abbrev S4096x3584 : Shape := ⟨2, ![4096, 3584]⟩
abbrev S_ : Shape := ⟨0, ![]⟩
abbrev S4x1024x896 : Shape := ⟨3, ![4, 1024, 896]⟩
abbrev S1024x4x896 : Shape := ⟨3, ![1024, 4, 896]⟩
abbrev S1024x3584 : Shape := ⟨2, ![1024, 3584]⟩
abbrev S3584x1024 : Shape := ⟨2, ![3584, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3584, .bf16⟩
  | .hbm, ⟨2, _⟩ => ⟨S4096x1024, .f32⟩
  | .hbm, ⟨3, _⟩ => ⟨S4096x3584, .f32⟩
  | .hbm, ⟨4, _⟩ => ⟨S_, .f32⟩
  | .hbm, ⟨5, _⟩ => ⟨S4x1024x896, .f32⟩
  | .hbm, ⟨6, _⟩ => ⟨S1024x4x896, .f32⟩
  | .hbm, ⟨7, _⟩ => ⟨S1024x3584, .f32⟩
  | .hbm, ⟨8, _⟩ => ⟨S4096x3584, .f32⟩
  | .hbm, ⟨9, _⟩ => ⟨S3584x1024, .f32⟩
  | .hbm, ⟨10, _⟩ => ⟨S1024x3584, .f32⟩
  | .hbm, ⟨11, _⟩ => ⟨S1024x4x896, .f32⟩
  | .hbm, ⟨12, _⟩ => ⟨S4x1024x896, .f32⟩
  | .hbm, ⟨13, _⟩ => ⟨S4x1024x896, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel6.lean ====
abbrev S4096x1024 : Shape := ⟨2, ![4096, 1024]⟩
abbrev S4x256x1024 : Shape := ⟨3, ![4, 256, 1024]⟩
abbrev S4096x256 : Shape := ⟨2, ![4096, 256]⟩
abbrev S1x256x1024 : Shape := ⟨3, ![1, 256, 1024]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x256x1024, .f32⟩
  | .hbm, ⟨3, _⟩ => ⟨S4x256x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S1x256x1024, .f32⟩
  | .local _ .vmem, ⟨4, _⟩ => ⟨S1x256x1024, .f32⟩
  | .local _ .vmem, ⟨5, _⟩ => ⟨S1x256x1024, .bf16⟩
  | .local _ .vmem, ⟨6, _⟩ => ⟨S1x256x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S4096x1024 : Shape := ⟨2, ![4096, 1024]⟩
abbrev S_ : Shape := ⟨0, ![]⟩
abbrev S4x256x1024 : Shape := ⟨3, ![4, 256, 1024]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4x256x1024, .f32⟩
  | .hbm, ⟨6, _⟩ => ⟨S1024x1024, .f32⟩
  | .hbm, ⟨7, _⟩ => ⟨S4096x1024, .f32⟩
  | .hbm, ⟨8, _⟩ => ⟨S1024x1024, .f32⟩
  | .hbm, ⟨9, _⟩ => ⟨S1024x1024, .f32⟩
  | .hbm, ⟨10, _⟩ => ⟨S4x256x1024, .f32⟩
  | .hbm, ⟨11, _⟩ => ⟨S4x256x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S4096x1024 : Shape := ⟨2, ![4096, 1024]⟩
abbrev S4x1024x1024 : Shape := ⟨3, ![4, 1024, 1024]⟩
abbrev S4096x4096 : Shape := ⟨2, ![4096, 4096]⟩
abbrev S1x1024x1024 : Shape := ⟨3, ![1, 1024, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x4096, .bf16⟩
  | .hbm, ⟨3, _⟩ => ⟨S4096x4096, .bf16⟩
  | .local _ .vmem, ⟨0, _⟩ => ⟨S4096x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  let c0_i32 : BitVec 32 := 0#32
  let v1 : BitVec 32 := Scalar.addi v0 c0_i32
  v1
def k0_off1 (i : grid0.Coords) (c0_i32 : BitVec 32) : Fin 2 → Nat :=
  let arg1 : BitVec 32 := BitVec.ofNat 32 (i 1).val
  let c1024_i32 : BitVec 32 := 1024#32
  let v0 : BitVec 32 := Scalar.muli arg1 c1024_i32
  let v1 : BitVec 32 := Scalar.addi v0 c0_i32
  let v2 : BitVec 32 := v1
  let v3 : Index := Scalar.indexCast v2
  let c0 : Index := 0#32
  ![v3.toNat, 0]
def k0_mult2 (i : grid0.Coords) : BitVec 32 :=
  let arg1 : BitVec 32 := BitVec.ofNat 32 (i 1).val
  let c1024_i32_8 : BitVec 32 := 1024#32
  let v15 : BitVec 32 := Scalar.muli arg1 c1024_i32_8
  let c512_i32 : BitVec 32 := 512#32
  let v16 : BitVec 32 := Scalar.addi v15 c512_i32
  v16
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S4096x1024 : Shape := ⟨2, ![4096, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .f32⟩
  | .hbm, ⟨3, _⟩ => ⟨S4x1024x1024, .f32⟩
  | .hbm, ⟨4, _⟩ => ⟨S1024x4x1024, .f32⟩
  | .hbm, ⟨5, _⟩ => ⟨S1024x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .bf16⟩
  | .hbm, ⟨12, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel8.lean ====
abbrev S4096x1024 : Shape := ⟨2, ![4096, 1024]⟩
abbrev S4x1024x896 : Shape := ⟨3, ![4, 1024, 896]⟩
abbrev S4096x3584 : Shape := ⟨2, ![4096, 3584]⟩
abbrev S1x1024x896 : Shape := ⟨3, ![1, 1024, 896]⟩
abbrev S1024x896 : Shape := ⟨2, ![1024, 896]⟩
abbrev S512x1024 : Shape := ⟨2, ![512, 1024]⟩
abbrev S512x896 : Shape := ⟨2, ![512, 896]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4x1024x896, .bf16⟩
  | .hbm, ⟨2, _⟩ => ⟨S4096x3584, .f32⟩
  | .local _ .vmem, ⟨0, _⟩ => ⟨S4096x1024, .bf16⟩
  | .local _ .vmem, ⟨1, _⟩ => ⟨S1x1024x896, .bf16⟩
  | .local _ .vmem, ⟨2, _⟩ => ⟨S1x1024x896, .bf16⟩
  | .local _ .vmem, ⟨3, _⟩ => ⟨S1024x896, .f32⟩
  | .local _ .vmem, ⟨4, _⟩ => ⟨S1024x896, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  let c0_i32 : BitVec 32 := 0#32
  let v1 : BitVec 32 := Scalar.addi v0 c0_i32
  v1
def k0_off1 (i : grid0.Coords) (c0_i32 : BitVec 32) : Fin 2 → Nat :=
  let arg1 : BitVec 32 := BitVec.ofNat 32 (i 1).val
  let c1024_i32 : BitVec 32 := 1024#32
  let v0 : BitVec 32 := Scalar.muli arg1 c1024_i32
  let v1 : BitVec 32 := Scalar.addi v0 c0_i32
  let v2 : BitVec 32 := v1
  let v3 : Index := Scalar.indexCast v2
  let c0 : Index := 0#32
  ![v3.toNat, 0]
def k0_mult2 (i : grid0.Coords) : BitVec 32 :=
  let arg1 : BitVec 32 := BitVec.ofNat 32 (i 1).val
  let c1024_i32_5 : BitVec 32 := 1024#32
  let v9 : BitVec 32 := Scalar.muli arg1 c1024_i32_5
  let c512_i32 : BitVec 32 := 512#32
  let v10 : BitVec 32 := Scalar.addi v9 c512_i32
  v10
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4096x1024 : Shape := ⟨2, ![4096, 1024]⟩
abbrev S4x1024x896 : Shape := ⟨3, ![4, 1024, 896]⟩
abbrev S1024x4x896 : Shape := ⟨3, ![1024, 4, 896]⟩
abbrev S1024x3584 : Shape := ⟨2, ![1024, 3584]⟩
abbrev S4096x3584 : Shape := ⟨2, ![4096, 3584]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x896, .bf16⟩
  | .hbm, ⟨2, _⟩ => ⟨S4096x1024, .f32⟩
  | .hbm, ⟨3, _⟩ => ⟨S4x1024x896, .f32⟩
  | .hbm, ⟨4, _⟩ => ⟨S1024x4x896, .f32⟩
  | .hbm, ⟨5, _⟩ => ⟨S1024x3584, .f32⟩
  | .hbm, ⟨6, _⟩ => ⟨S4096x3584, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S4096x1024 : Shape := ⟨2, ![4096, 1024]⟩
abbrev S4x256x1024 : Shape := ⟨3, ![4, 256, 1024]⟩
abbrev S1x1024 : Shape := ⟨2, ![1, 1024]⟩
abbrev S1024x1024 : Shape := ⟨2, ![1024, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S4x256x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1024x1024, .bf16⟩
  | .hbm, ⟨6, _⟩ => ⟨S4096x1024, .f32⟩
  | .hbm, ⟨7, _⟩ => ⟨S4096x1024, .f32⟩
  | .hbm, ⟨8, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S4096x1024 : Shape := ⟨2, ![4096, 1024]⟩
abbrev S4x256x1024 : Shape := ⟨3, ![4, 256, 1024]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩

abbrev nBuf : Space → Nat
  | .hbm => 41
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x256x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4x256x1024, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel10.lean ====
abbrev S4096x4096 : Shape := ⟨2, ![4096, 4096]⟩
abbrev S4x1024x1024 : Shape := ⟨3, ![4, 1024, 1024]⟩
abbrev S4096x1024 : Shape := ⟨2, ![4096, 1024]⟩
abbrev S1x1024 : Shape := ⟨2, ![1, 1024]⟩
abbrev S1x128 : Shape := ⟨2, ![1, 128]⟩
abbrev S512x4096 : Shape := ⟨2, ![512, 4096]⟩
abbrev S512x1024 : Shape := ⟨2, ![512, 1024]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S4096x4096, .bf16⟩
  | .hbm, ⟨1, _⟩ => ⟨S4x1024x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .bf16⟩
  | .hbm, ⟨6, _⟩ => ⟨S4096x1024, .f32⟩
  | .hbm, ⟨7, _⟩ => ⟨S4096x1024, .bf16⟩
  | .hbm, ⟨8, _⟩ => ⟨S1x1024, .f32⟩
  | .hbm, ⟨9, _⟩ => ⟨S1x128, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference10Ideal.lean ====
abbrev S4096x4096 : Shape := ⟨2, ![4096, 4096]⟩
abbrev S4x1024x1024 : Shape := ⟨3, ![4, 1024, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x1024x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x4096, .f32⟩
  | .hbm, ⟨6, _⟩ => ⟨S4x1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .bf16⟩
  | .hbm, ⟨76, _⟩ => ⟨S1x128, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_13 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== Kernel11.lean ====
abbrev S1024x896 : Shape := ⟨2, ![1024, 896]⟩
abbrev S256x896 : Shape := ⟨2, ![256, 896]⟩

abbrev nBuf : Space → Nat
  | .hbm => 7
  | .vmem => 14
  | .smem => 0
  | _ => 0

abbrev bufTy : (tb : Table) → Fin (tcTables nBuf tb) → BufTy
  | .hbm, ⟨0, _⟩ => ⟨S1024x896, .f32⟩
  | .hbm, ⟨1, _⟩ => ⟨S1024x896, .f32⟩
  | .hbm, ⟨2, _⟩ => ⟨S1024x896, .f32⟩
  | .hbm, ⟨3, _⟩ => ⟨S1024x896, .f32⟩
  | .hbm, ⟨4, _⟩ => ⟨S1024x896, .f32⟩
  | .hbm, ⟨5, _⟩ => ⟨S1024x896, .f32⟩
  | .hbm, ⟨6, _⟩ => ⟨S1024x896, .f32⟩
  | .local _ .vmem, ⟨0, _⟩ => ⟨S256x896, .f32⟩
  | .local _ .vmem, ⟨1, _⟩ => ⟨S256x896, .f32⟩
  | .local _ .vmem, ⟨2, _⟩ => ⟨S256x896, .f32⟩
  | .local _ .vmem, ⟨3, _⟩ => ⟨S256x896, .f32⟩
  | .local _ .vmem, ⟨4, _⟩ => ⟨S256x896, .f32⟩
  | .local _ .vmem, ⟨5, _⟩ => ⟨S256x896, .f32⟩
  | .local _ .vmem, ⟨6, _⟩ => ⟨S256x896, .f32⟩
  | .local _ .vmem, ⟨7, _⟩ => ⟨S256x896, .f32⟩
  | .local _ .vmem, ⟨8, _⟩ => ⟨S256x896, .f32⟩
  | .local _ .vmem, ⟨9, _⟩ => ⟨S256x896, .f32⟩
  | .local _ .vmem, ⟨10, _⟩ => ⟨S256x896, .f32⟩
  | .local _ .vmem, ⟨11, _⟩ => ⟨S256x896, .f32⟩
  | .local _ .vmem, ⟨12, _⟩ => ⟨S256x896, .f32⟩
  | .local _ .vmem, ⟨13, _⟩ => ⟨S256x896, .f32⟩
  | _, _ => ⟨S1024x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S1024x896 : Shape := ⟨2, ![1024, 896]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x896, .f32⟩
  | .hbm, ⟨1, _⟩ => ⟨S1024x896, .f32⟩
  | .hbm, ⟨2, _⟩ => ⟨S1024x896, .f32⟩
  | .hbm, ⟨3, _⟩ => ⟨S1024x896, .f32⟩
  | .hbm, ⟨4, _⟩ => ⟨S_, .f32⟩
  | .hbm, ⟨5, _⟩ => ⟨S1024x896, .f32⟩
  | .hbm, ⟨6, _⟩ => ⟨S1024x896, .f32⟩
  | .hbm, ⟨7, _⟩ => ⟨S_, .f32⟩
  | .hbm, ⟨8, _⟩ => ⟨S1024x896, .f32⟩
  | .hbm, ⟨9, _⟩ => ⟨S1024x896, .f32⟩
  | .hbm, ⟨10, _⟩ => ⟨S1024x896, .f32⟩
  | .hbm, ⟨11, _⟩ => ⟨S_, .f32⟩
  | .hbm, ⟨12, _⟩ => ⟨S1024x896, .f32⟩
  | .hbm, ⟨13, _⟩ => ⟨S1024x896, .f32⟩
  | .hbm, ⟨14, _⟩ => ⟨S1024x896, .f32⟩
  | .hbm, ⟨15, _⟩ => ⟨S_, .f32⟩
  | .hbm, ⟨16, _⟩ => ⟨S1024x896, .f32⟩
  | .hbm, ⟨17, _⟩ => ⟨S1024x896, .f32⟩
  | .hbm, ⟨18, _⟩ => ⟨S1024x896, .f32⟩
  | .hbm, ⟨19, _⟩ => ⟨S_, .f32⟩
  | .hbm, ⟨20, _⟩ => ⟨S1024x896, .f32⟩
  | .hbm, ⟨21, _⟩ => ⟨S1024x896, .f32⟩
  | .hbm, ⟨22, _⟩ => ⟨S_, .f32⟩
  | .hbm, ⟨23, _⟩ => ⟨S1024x896, .f32⟩
  | .hbm, ⟨24, _⟩ => ⟨S1024x896, .f32⟩
  | .hbm, ⟨25, _⟩ => ⟨S1024x896, .f32⟩
  | .hbm, ⟨26, _⟩ => ⟨S_, .f32⟩
  | .hbm, ⟨27, _⟩ => ⟨S1024x896, .f32⟩
  | .hbm, ⟨28, _⟩ => ⟨S1024x896, .f32⟩
  | .hbm, ⟨29, _⟩ => ⟨S1024x896, .f32⟩
  | .hbm, ⟨30, _⟩ => ⟨S_, .f32⟩
  | .hbm, ⟨31, _⟩ => ⟨S1024x896, .f32⟩
  | .hbm, ⟨32, _⟩ => ⟨S1024x896, .f32⟩
  | .hbm, ⟨33, _⟩ => ⟨S1024x896, .f32⟩
  | .hbm, ⟨34, _⟩ => ⟨S_, .f32⟩
  | .hbm, ⟨35, _⟩ => ⟨S1024x896, .f32⟩
  | .hbm, ⟨36, _⟩ => ⟨S1024x896, .f32⟩
  | _, _ => ⟨S1024x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference12Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S1024x1024 : Shape := ⟨2, ![1024, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S8x1024 : Shape := ⟨2, ![8, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference14Ideal.lean ====
abbrev S8x1024 : Shape := ⟨2, ![8, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S_, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S_, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S8x1024, .f32⟩
  | .hbm, ⟨26, _⟩ => ⟨S_, .f32⟩
  | .hbm, ⟨27, _⟩ => ⟨S8x1024, .f32⟩
  | .hbm, ⟨28, _⟩ => ⟨S8x1024, .f32⟩
  | .hbm, ⟨29, _⟩ => ⟨S8x1024, .f32⟩
  | .hbm, ⟨30, _⟩ => ⟨S_, .f32⟩
  | .hbm, ⟨31, _⟩ => ⟨S8x1024, .f32⟩
  | .hbm, ⟨32, _⟩ => ⟨S8x1024, .f32⟩
  | .hbm, ⟨33, _⟩ => ⟨S8x1024, .f32⟩
  | .hbm, ⟨34, _⟩ => ⟨S_, .f32⟩
  | .hbm, ⟨35, _⟩ => ⟨S8x1024, .f32⟩
  | .hbm, ⟨36, _⟩ => ⟨S8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S4096x512 : Shape := ⟨2, ![4096, 512]⟩
abbrev S1x512 : Shape := ⟨2, ![1, 512]⟩
abbrev S512x512 : Shape := ⟨2, ![512, 512]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S1x512, .f32⟩
  | .hbm, ⟨2, _⟩ => ⟨S4096x512, .bf16⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S512x512, .bf16⟩
  | .local _ .vmem, ⟨4, _⟩ => ⟨S512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference15Ideal.lean ====
abbrev S4096x512 : Shape := ⟨2, ![4096, 512]⟩
abbrev S1x512 : Shape := ⟨2, ![1, 512]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S1x512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Frames.lean ====
/- The frames, and the rounding rule at its shapes. -/
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Gen.ReferenceIdeal.Run
public import Idealize.ShloMosaic.Adequacy
public import Idealize.ShloMosaic.Init
public import Idealize.ShloMosaic.Lib.Quiescent

@[expose] public section

namespace Cert.Proof

open Idealize.ShloMosaic Idealize.SL.Sem

theorem kernel_frame : Cert.quiescent_Kernel (hKernel := Cert.Kernel.Gen.facts) := fun m ρ _ => Cert.Kernel.Gen.frame m ρ

theorem ideal_frame : Cert.quiescent_KernelIdeal (hKernelIdeal := Cert.KernelIdeal.Gen.facts) := fun m ρ _ => Cert.KernelIdeal.Gen.frame m ρ

theorem reference_frame : Cert.quiescent_ReferenceIdeal (hReferenceIdeal := Cert.ReferenceIdeal.Gen.facts) := fun m ρ _ =>
  (θ_run Cert.ReferenceIdeal.defs _ _).mono (fun r h => ⟨fun c => (h c).2.2.2.2.2.2, sem_eq_zero_of_no_sems (by decide) r.2⟩)
    (Cert.ReferenceIdeal.Value.run (F := Ideal) m ρ)

theorem preserves : Cert.preserves_Kernel_KernelIdeal :=
  ⟨IdealRules.bf16_pack.statement _, IdealRules.bf16_pack.statement _, IdealRules.bf16_pack.statement _, IdealRules.bf16_pack.statement _⟩

end Cert.Proof
-- ==== Proof.MmFrames.lean ====
/- The generated facts about the products of the channel mixer and of the projections. -/
module

public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel10.Frame
public import proofs.«01_k».proof.Proof.Gen.Kernel9Ideal.Frame
public import proofs.«01_k».proof.Proof.Gen.Kernel10Ideal.Frame
public import proofs.«01_k».proof.Proof.Gen.Kernel9Ideal.Value
public import proofs.«01_k».proof.Proof.Gen.Kernel10Ideal.Value
public import proofs.«01_k».proof.Proof.Gen.Reference9Ideal.Run
public import proofs.«01_k».proof.Proof.Gen.Reference10Ideal.Run
public import proofs.«01_k».proof.Proof.Gen.Reference9Ideal.Read
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
-- ==== Proof.ProductFrames.lean ====
/- The frames of the calls behind the first, the kernel's and the reference's. -/
module

public import proofs.«01_k».proof.Defs
public import proofs.«01_k».proof.Proof.MmFrames
public import Idealize.ShloMosaic.Adequacy
public import Idealize.ShloMosaic.Init
public import Idealize.ShloMosaic.Lib.Quiescent

@[expose] public section

namespace Cert.Proof

open Idealize.ShloMosaic Idealize.SL.Sem

theorem kernel2_frame : Cert.quiescent_Kernel2 (hKernel2 := Cert.Kernel2.Gen.facts) := fun m ρ _ => Cert.Kernel2.Gen.frame m ρ

theorem ideal2_frame : Cert.quiescent_Kernel2Ideal (hKernel2Ideal := Cert.Kernel2Ideal.Gen.facts) := fun m ρ _ => Cert.Kernel2Ideal.Gen.frame m ρ

theorem reference2_frame : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

theorem kernel3_frame : Cert.quiescent_Kernel3 (hKernel3 := Cert.Kernel3.Gen.facts) := fun m ρ _ => Cert.Kernel3.Gen.frame m ρ

theorem ideal3_frame : Cert.quiescent_Kernel3Ideal (hKernel3Ideal := Cert.Kernel3Ideal.Gen.facts) := fun m ρ _ => Cert.Kernel3Ideal.Gen.frame m ρ

theorem reference3_frame : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem kernel4_frame : Cert.quiescent_Kernel4 (hKernel4 := Cert.Kernel4.Gen.facts) := fun m ρ _ => Cert.Kernel4.Gen.frame m ρ

theorem ideal4_frame : Cert.quiescent_Kernel4Ideal (hKernel4Ideal := Cert.Kernel4Ideal.Gen.facts) := fun m ρ _ => Cert.Kernel4Ideal.Gen.frame m ρ

theorem reference4_frame : Cert.quiescent_Reference4Ideal (hReference4Ideal := Cert.Reference4Ideal.Gen.facts) := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem kernel5_frame : Cert.quiescent_Kernel5 (hKernel5 := Cert.Kernel5.Gen.facts) := fun m ρ _ => Cert.Kernel5.Gen.frame m ρ

theorem ideal5_frame : Cert.quiescent_Kernel5Ideal (hKernel5Ideal := Cert.Kernel5Ideal.Gen.facts) := fun m ρ _ => Cert.Kernel5Ideal.Gen.frame m ρ

theorem reference5_frame : Cert.quiescent_Reference5Ideal (hReference5Ideal := Cert.Reference5Ideal.Gen.facts) := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem kernel6_frame : Cert.quiescent_Kernel6 (hKernel6 := Cert.Kernel6.Gen.facts) := fun m ρ _ => Cert.Kernel6.Gen.frame m ρ

theorem ideal6_frame : Cert.quiescent_Kernel6Ideal (hKernel6Ideal := Cert.Kernel6Ideal.Gen.facts) := fun m ρ _ => Cert.Kernel6Ideal.Gen.frame m ρ

theorem reference6_frame : Cert.quiescent_Reference6Ideal (hReference6Ideal := Cert.Reference6Ideal.Gen.facts) := fun m ρ _ =>
  (θ_run Cert.Reference6Ideal.defs _ _).mono (fun r h => ⟨fun c => (h c).2.2, sem_eq_zero_of_no_sems (by decide) r.2⟩)
    (Cert.Reference6Ideal.Value.run (F := Ideal) m ρ)

theorem kernel7_frame : Cert.quiescent_Kernel7 (hKernel7 := Cert.Kernel7.Gen.facts) := fun m ρ _ => Cert.Kernel7.Gen.frame m ρ

theorem ideal7_frame : Cert.quiescent_Kernel7Ideal (hKernel7Ideal := Cert.Kernel7Ideal.Gen.facts) := fun m ρ _ => Cert.Kernel7Ideal.Gen.frame m ρ

theorem reference7_frame : Cert.quiescent_Reference7Ideal (hReference7Ideal := Cert.Reference7Ideal.Gen.facts) := fun m ρ _ =>
  (θ_run Cert.Reference7Ideal.defs _ _).mono (fun r h => ⟨fun c => (h c).2.2, sem_eq_zero_of_no_sems (by decide) r.2⟩)
    (Cert.Reference7Ideal.Value.run (F := Ideal) m ρ)

theorem kernel8_frame : Cert.quiescent_Kernel8 (hKernel8 := Cert.Kernel8.Gen.facts) := fun m ρ _ => Cert.Kernel8.Gen.frame m ρ

theorem ideal8_frame : Cert.quiescent_Kernel8Ideal (hKernel8Ideal := Cert.Kernel8Ideal.Gen.facts) := fun m ρ _ => Cert.Kernel8Ideal.Gen.frame m ρ

theorem reference8_frame : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

theorem kernel9_frame : Cert.quiescent_Kernel9 (hKernel9 := Cert.Kernel9.Gen.facts) := fun m ρ _ => Cert.Kernel9.Gen.frame m ρ

theorem ideal9_frame : Cert.quiescent_Kernel9Ideal (hKernel9Ideal := Cert.Kernel9Ideal.Gen.facts) := fun m ρ _ => Cert.Kernel9Ideal.Gen.frame m ρ

theorem reference9_frame : Cert.quiescent_Reference9Ideal (hReference9Ideal := Cert.Reference9Ideal.Gen.facts) := fun m ρ _ =>
  (θ_run Cert.Reference9Ideal.defs _ _).mono (fun r h => ⟨fun c => (h c).2.2.2, sem_eq_zero_of_no_sems (by decide) r.2⟩)
    (Cert.Reference9Ideal.Value.run (F := Ideal) m ρ)

theorem kernel10_frame : Cert.quiescent_Kernel10 (hKernel10 := Cert.Kernel10.Gen.facts) := fun m ρ _ => Cert.Kernel10.Gen.frame m ρ

theorem ideal10_frame : Cert.quiescent_Kernel10Ideal (hKernel10Ideal := Cert.Kernel10Ideal.Gen.facts) := fun m ρ _ => Cert.Kernel10Ideal.Gen.frame m ρ

theorem reference10_frame : Cert.quiescent_Reference10Ideal (hReference10Ideal := Cert.Reference10Ideal.Gen.facts) := fun m ρ _ =>
  (θ_run Cert.Reference10Ideal.defs _ _).mono (fun r h => ⟨fun c => (h c).2.2.2.2, sem_eq_zero_of_no_sems (by decide) r.2⟩)
    (Cert.Reference10Ideal.Value.run (F := Ideal) m ρ)

theorem kernel11_frame : Cert.quiescent_Kernel11 (hKernel11 := Cert.Kernel11.Gen.facts) := fun m ρ _ => Cert.Kernel11.Gen.frame m ρ

theorem ideal11_frame : Cert.quiescent_Kernel11Ideal (hKernel11Ideal := Cert.Kernel11Ideal.Gen.facts) := fun m ρ _ => Cert.Kernel11Ideal.Gen.frame m ρ

theorem reference11_frame : Cert.quiescent_Reference11Ideal (hReference11Ideal := Cert.Reference11Ideal.Gen.facts) := fun m ρ _ =>
  (θ_run Cert.Reference11Ideal.defs _ _).mono (fun r h => ⟨fun c => (h c).2.2.2, sem_eq_zero_of_no_sems (by decide) r.2⟩)
    (Cert.Reference11Ideal.Value.run (F := Ideal) m ρ)

theorem kernel12_frame : Cert.quiescent_Kernel12 (hKernel12 := Cert.Kernel12.Gen.facts) := fun m ρ _ => Cert.Kernel12.Gen.frame m ρ

theorem ideal12_frame : Cert.quiescent_Kernel12Ideal (hKernel12Ideal := Cert.Kernel12Ideal.Gen.facts) := fun m ρ _ => Cert.Kernel12Ideal.Gen.frame m ρ

theorem reference12_frame : Cert.quiescent_Reference12Ideal (hReference12Ideal := Cert.Reference12Ideal.Gen.facts) := fun m ρ _ =>
  (θ_run Cert.Reference12Ideal.defs _ _).mono (fun r h => ⟨fun c => (h c).2.2.2, sem_eq_zero_of_no_sems (by decide) r.2⟩)
    (Cert.Reference12Ideal.Value.run (F := Ideal) m ρ)

theorem kernel13_frame : Cert.quiescent_Kernel13 (hKernel13 := Cert.Kernel13.Gen.facts) := fun m ρ _ => Cert.Kernel13.Gen.frame m ρ

theorem ideal13_frame : Cert.quiescent_Kernel13Ideal (hKernel13Ideal := Cert.Kernel13Ideal.Gen.facts) := fun m ρ _ => Cert.Kernel13Ideal.Gen.frame m ρ

theorem reference13_frame : Cert.quiescent_Reference13Ideal (hReference13Ideal := Cert.Reference13Ideal.Gen.facts) := fun m ρ _ =>
  (θ_run Cert.Reference13Ideal.defs _ _).mono (fun r h => ⟨fun c => (h c).2.2.2, sem_eq_zero_of_no_sems (by decide) r.2⟩)
    (Cert.Reference13Ideal.Value.run (F := Ideal) m ρ)

theorem kernel14_frame : Cert.quiescent_Kernel14 (hKernel14 := Cert.Kernel14.Gen.facts) := fun m ρ _ => Cert.Kernel14.Gen.frame m ρ

theorem ideal14_frame : Cert.quiescent_Kernel14Ideal (hKernel14Ideal := Cert.Kernel14Ideal.Gen.facts) := fun m ρ _ => Cert.Kernel14Ideal.Gen.frame m ρ

theorem reference14_frame : Cert.quiescent_Reference14Ideal (hReference14Ideal := Cert.Reference14Ideal.Gen.facts) := fun m ρ _ =>
  (θ_run Cert.Reference14Ideal.defs _ _).mono (fun r h => ⟨fun c => (h c).2.2.2, sem_eq_zero_of_no_sems (by decide) r.2⟩)
    (Cert.Reference14Ideal.Value.run (F := Ideal) m ρ)

theorem kernel15_frame : Cert.quiescent_Kernel15 (hKernel15 := Cert.Kernel15.Gen.facts) := fun m ρ _ => Cert.Kernel15.Gen.frame m ρ

theorem ideal15_frame : Cert.quiescent_Kernel15Ideal (hKernel15Ideal := Cert.Kernel15Ideal.Gen.facts) := fun m ρ _ => Cert.Kernel15Ideal.Gen.frame m ρ

theorem reference15_frame : Cert.quiescent_Reference15Ideal (hReference15Ideal := Cert.Reference15Ideal.Gen.facts) := fun m ρ _ =>
  (θ_run Cert.Reference15Ideal.defs _ _).mono (fun r h => ⟨fun c => (h c).2, sem_eq_zero_of_no_sems (by decide) r.2⟩)
    (Cert.Reference15Ideal.Value.run (F := Ideal) m ρ)

end Cert.Proof
-- ==== Proof.Mm2.lean ====
/- The gradient at the channel mixer's hidden values: what its call writes is what the reference computes. -/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.WholeRead
public import Idealize.ShloMosaic.Lib.Pipeline.ValueKit

@[expose] public section

noncomputable section

namespace Mm2

open Idealize.ShloMosaic Idealize.ShloMosaic.TcCoe Idealize.SL.Sem Cert.Kernel2Ideal Cert.Kernel2Ideal.Gen

/-- The product at a place: a row of the cotangent against a row of the weight. -/
def prod (a : Vec Ideal S4096x1024 .bf16) (b : Vec Ideal S4x1024x1024 .bf16) (i : S4096x4096.Idx) : EReal :=
  ∑ k : Fin 1024, a (Idealize.ShloMosaic.ix2 (i 0) k) * b (Idealize.ShloMosaic.ix3 ⟨(i 1).val / 1024, by have h : (i 1).val < 4096 := (i 1).isLt; omega⟩ ⟨(i 1).val % 1024, by omega⟩ k)

/-- Row `r` of the cotangent against row `s` of one block of the weight. -/
def dotG (x0 : Vec Ideal S4096x1024 .bf16) (x1 : Vec Ideal S1x1024x1024 .bf16) (r : Fin 4096) (s : Fin 1024) : EReal :=
  ∑ k : Fin 1024, x0 (Idealize.ShloMosaic.ix2 r k) * x1 (Idealize.ShloMosaic.ix3 0 s k)

theorem sum_dotG (A B : Fin 1024 → EReal) (x0 : Vec Ideal S4096x1024 .bf16) (x1 : Vec Ideal S1x1024x1024 .bf16) (r : Fin 4096) (s : Fin 1024)
    (h0 : ∀ k : Fin 1024, A k = x0 (Idealize.ShloMosaic.ix2 r k)) (h1 : ∀ k : Fin 1024, B k = x1 (Idealize.ShloMosaic.ix3 0 s k)) : ∑ k : Fin 1024, A k * B k = dotG x0 x1 r s :=
  Finset.sum_congr rfl fun k _ => by rw [h0 k, h1 k]

theorem row_lt (j : grid0.Coords) (y : S1024x1024.Idx) : 1024 * (j 1).val + (y 0).val < 4096 := by
  have h1 : (j 1).val < 4 := (j 1).isLt
  have h2 : (y 0).val < 1024 := (y 0).isLt
  omega

/-- The block written at one point of the grid: the product times twice the saved relu. -/
def blockG (j : grid0.Coords) (x0 : Vec Ideal S4096x1024 .bf16) (x1 : Vec Ideal S1x1024x1024 .bf16) (x2 : Vec Ideal S1024x1024 .bf16) (y : S1024x1024.Idx) : Elt Ideal .bf16 :=
  dotG x0 x1 ⟨1024 * (j 1).val + (y 0).val, row_lt j y⟩ (y 1) * (Ideal.ofBits .f32 0x40000000#32 * x2 y)

theorem pay1_apply (a : Vec Ideal S512x1024 .bf16) (w : Vec Ideal S1x1024x1024 .bf16) (r : Vec Ideal S512x1024 .bf16) (z : S512x1024.Idx) :
    k0_pay1 a w r z = ((∑ k : Fin 1024, a (Idealize.ShloMosaic.ix2 (z 0) k) * w (Idealize.ShloMosaic.ix3 0 (z 1) k)) * (Ideal.ofBits .f32 0x40000000#32 * r z) : EReal) := by
  pointwise [k0_pay1]

theorem pay2_apply (a : Vec Ideal S512x1024 .bf16) (w : Vec Ideal S1x1024x1024 .bf16) (r : Vec Ideal S512x1024 .bf16) (z : S512x1024.Idx) :
    k0_pay2 a w r z = ((∑ k : Fin 1024, a (Idealize.ShloMosaic.ix2 (z 0) k) * w (Idealize.ShloMosaic.ix3 0 (z 1) k)) * (Ideal.ofBits .f32 0x40000000#32 * r z) : EReal) := by
  pointwise [k0_pay2]

theorem off0 (j : grid0.Coords) : k0_off1 j 0#32 = ![1024 * (j 1).val, 0] := by
  revert j; decide +kernel

theorem off512 (j : grid0.Coords) : k0_off1 j 512#32 = ![1024 * (j 1).val + 512, 0] := by
  revert j; decide +kernel

variable (c : Dev nD) (j : grid0.Coords) (arg2 : Memref sig .tc .vmem S4096x1024 .bf16) (harg2 : arg2.IsWhole) (arg3 : Memref sig .tc .vmem S1x1024x1024 .bf16) (harg3 : arg3.IsWhole) (arg4 : Memref sig .tc .vmem S1024x1024 .bf16) (harg4 : arg4.IsWhole) (arg5 : Memref sig .tc .vmem S1024x1024 .bf16) (harg5 : arg5.IsWhole)

theorem rows (x0 : Vec Ideal S4096x1024 .bf16) (s : ℕ) (off : Fin 2 → ℕ) (h : off = ![s, 0]) (inb) (z : Fin 512) (k : Fin 1024) (hs : s + z.val < 4096) :
    View.readAt (Elt Ideal) arg2.view (Rect.unit (s := S4096x1024) off S512x1024.size inb).toLoadRect (harg2.unread x0) (Idealize.ShloMosaic.ix2 z k) = x0 (Idealize.ShloMosaic.ix2 ⟨s + z.val, hs⟩ k) := by
  subst h
  rw [Memref.IsWhole.readAt_unread]
  refine congrArg x0 (funext fun d => Fin.ext ?_)
  match d with
  | ⟨0, _⟩ => exact (ValueKit.rect_emb_unit_val _ _ _ _ _ : ((Rect.unit (s := S4096x1024) ![s, 0] S512x1024.size inb).emb (Idealize.ShloMosaic.ix2 z k) 0).val = s + z.val)
  | ⟨1, _⟩ => exact ((ValueKit.rect_emb_unit_val _ _ _ _ _).trans (Nat.zero_add _) : ((Rect.unit (s := S4096x1024) ![s, 0] S512x1024.size inb).emb (Idealize.ShloMosaic.ix2 z k) 1).val = k.val)

theorem wts (x1 : Vec Ideal S1x1024x1024 .bf16) (k : Fin 1024) (r : Fin 1024) :
    View.readAt (Elt Ideal) arg3.view (Rect.unit (s := S1x1024x1024) ![0, 0, 0] S1x1024x1024.size inb_S1x1024x1024_S1x1024x1024_0_0_0).toLoadRect (harg3.unread x1) (Idealize.ShloMosaic.ix3 0 r k) = x1 (Idealize.ShloMosaic.ix3 0 r k) := by
  rw [Memref.IsWhole.readAt_unread]
  refine congrArg x1 (funext fun d => Fin.ext ?_)
  match d with
  | ⟨0, _⟩ => exact ((ValueKit.rect_emb_unit_val _ _ _ _ _).trans (Nat.zero_add _) : ((Rect.unit (s := S1x1024x1024) ![0, 0, 0] S1x1024x1024.size inb_S1x1024x1024_S1x1024x1024_0_0_0).emb (Idealize.ShloMosaic.ix3 0 r k) 0).val = 0)
  | ⟨1, _⟩ => exact ((ValueKit.rect_emb_unit_val _ _ _ _ _).trans (Nat.zero_add _) : ((Rect.unit (s := S1x1024x1024) ![0, 0, 0] S1x1024x1024.size inb_S1x1024x1024_S1x1024x1024_0_0_0).emb (Idealize.ShloMosaic.ix3 0 r k) 1).val = r.val)
  | ⟨2, _⟩ => exact ((ValueKit.rect_emb_unit_val _ _ _ _ _).trans (Nat.zero_add _) : ((Rect.unit (s := S1x1024x1024) ![0, 0, 0] S1x1024x1024.size inb_S1x1024x1024_S1x1024x1024_0_0_0).emb (Idealize.ShloMosaic.ix3 0 r k) 2).val = k.val)

theorem ext (x2 : Vec Ideal S1024x1024 .bf16) (off : Fin 2 → ℕ) (inb) (z : S512x1024.Idx) :
    View.readAt (Elt Ideal) arg4.view (Rect.unit (s := S1024x1024) off S512x1024.size inb).toLoadRect (harg4.unread x2) z = x2 ((Rect.unit (s := S1024x1024) off S512x1024.size inb).emb z) := by
  rw [Memref.IsWhole.readAt_unread]
  rfl

theorem out_apply (x0 : Vec Ideal S4096x1024 .bf16) (x1 : Vec Ideal S1x1024x1024 .bf16) (x2 : Vec Ideal S1024x1024 .bf16) (y : S1024x1024.Idx) :
    out0_A_3 c j arg2 harg2 arg3 harg3 arg4 harg4 arg5 harg5 x0 x1 x2 y = blockG j x0 x1 x2 y := by
  unfold out0_A_3
  rw [View.read_writes_eq_canon _ _ _ (cover0_A_3 c j arg2 harg2 arg3 harg3 arg4 harg4 arg5 harg5 x0 x1 x2)]
  refine View.canon_apply_of_pieces (Val := Elt Ideal) (e := .bf16) (blockG j x0 x1 x2) _ ?_ y (cover0_A_3 c j arg2 harg2 arg3 harg3 arg4 harg4 arg5 harg5 x0 x1 x2 y)
  have hp : (kernelRun0_A c j arg2 harg2 arg3 harg3 arg4 harg4 arg5 harg5 x0 x1 x2).1 =
    [⟨Rect.unit (s := S1024x1024) ![512, 0] S512x1024.size inb_S1024x1024_S512x1024_512_0, k0_pay2 (View.readAt (Elt Ideal) arg2.view (Rect.unit (s := S4096x1024) (k0_off1 j 512#32) S512x1024.size (k0_off1_inb j 1)).toLoadRect (harg2.unread x0)) (View.readAt (Elt Ideal) arg3.view (Rect.unit (s := S1x1024x1024) ![0, 0, 0] S1x1024x1024.size inb_S1x1024x1024_S1x1024x1024_0_0_0).toLoadRect (harg3.unread x1)) (View.readAt (Elt Ideal) arg4.view (Rect.unit (s := S1024x1024) ![512, 0] S512x1024.size inb_S1024x1024_S512x1024_512_0).toLoadRect (harg4.unread x2))⟩,
     ⟨Rect.unit (s := S1024x1024) ![0, 0] S512x1024.size inb_S1024x1024_S512x1024_0_0, k0_pay1 (View.readAt (Elt Ideal) arg2.view (Rect.unit (s := S4096x1024) (k0_off1 j 0#32) S512x1024.size (k0_off1_inb j 0)).toLoadRect (harg2.unread x0)) (View.readAt (Elt Ideal) arg3.view (Rect.unit (s := S1x1024x1024) ![0, 0, 0] S1x1024x1024.size inb_S1x1024x1024_S1x1024x1024_0_0_0).toLoadRect (harg3.unread x1)) (View.readAt (Elt Ideal) arg4.view (Rect.unit (s := S1024x1024) ![0, 0] S512x1024.size inb_S1024x1024_S512x1024_0_0).toLoadRect (harg4.unread x2))⟩] := rfl
  rw [hp]
  intro pc hpc
  rcases List.mem_cons.mp hpc with rfl | hpc
  · intro z
    have hj : (j 1).val < 4 := (j 1).isLt
    have hz : (z 0).val < 512 := (z 0).isLt
    have e0 : ((Rect.unit (s := S1024x1024) ![512, 0] S512x1024.size inb_S1024x1024_S512x1024_512_0).emb z 0).val = 512 + (z 0).val := ValueKit.rect_emb_unit_val _ _ _ z _
    have e1 : ((Rect.unit (s := S1024x1024) ![512, 0] S512x1024.size inb_S1024x1024_S512x1024_512_0).emb z 1).val = (z 1).val := (ValueKit.rect_emb_unit_val _ _ _ z _).trans (Nat.zero_add _)
    refine (pay2_apply _ _ _ z).trans (congr (congrArg HMul.hMul (sum_dotG _ _ x0 x1 _ _ (fun k => (rows arg2 harg2 x0 _ _ (off512 j) _ (z 0) k (by omega)).trans ?_) (fun k => (wts arg3 harg3 x1 k (z 1)).trans ?_))) (congrArg _ (ext arg4 harg4 x2 _ _ z)))
    · exact congrArg (fun n => x0 (Idealize.ShloMosaic.ix2 n k)) (Fin.ext (by show 1024 * (j 1).val + 512 + (z 0).val = 1024 * (j 1).val + _; rw [e0]; omega))
    · exact congrArg (fun n => x1 (Idealize.ShloMosaic.ix3 0 n k)) (Fin.ext e1.symm)
  rcases List.mem_singleton.mp hpc with rfl
  · intro z
    have hj : (j 1).val < 4 := (j 1).isLt
    have hz : (z 0).val < 512 := (z 0).isLt
    have e0 : ((Rect.unit (s := S1024x1024) ![0, 0] S512x1024.size inb_S1024x1024_S512x1024_0_0).emb z 0).val = (z 0).val := (ValueKit.rect_emb_unit_val _ _ _ z _).trans (Nat.zero_add _)
    have e1 : ((Rect.unit (s := S1024x1024) ![0, 0] S512x1024.size inb_S1024x1024_S512x1024_0_0).emb z 1).val = (z 1).val := (ValueKit.rect_emb_unit_val _ _ _ z _).trans (Nat.zero_add _)
    refine (pay1_apply _ _ _ z).trans (congr (congrArg HMul.hMul (sum_dotG _ _ x0 x1 _ _ (fun k => (rows arg2 harg2 x0 _ _ (off0 j) _ (z 0) k (by omega)).trans ?_) (fun k => (wts arg3 harg3 x1 k (z 1)).trans ?_))) (congrArg _ (ext arg4 harg4 x2 _ _ z)))
    · exact congrArg (fun n => x0 (Idealize.ShloMosaic.ix2 n k)) (Fin.ext (by show 1024 * (j 1).val + (z 0).val = 1024 * (j 1).val + _; rw [e0]))
    · exact congrArg (fun n => x1 (Idealize.ShloMosaic.ix3 0 n k)) (Fin.ext e1.symm)

theorem idx : ∀ t : Fin cfg0.grid.N, win0_0.index t = ![0, 0] ∧ win0_1.index t = ![t.val / 4, 0, 0] ∧ win0_2.index t = ![t.val % 4, t.val / 4] ∧ win0_3.index t = ![t.val % 4, t.val / 4] := by
  decide +kernel

theorem crd : ∀ t : Fin cfg0.grid.N, (grid0.coords t 1).val = t.val % 4 := by
  decide +kernel

theorem dotG_eq (x0 a : Vec Ideal S4096x1024 .bf16) (x1 : Vec Ideal S1x1024x1024 .bf16) (b : Vec Ideal S4x1024x1024 .bf16) (r : Fin 4096) (s : Fin 1024) (i : S4096x4096.Idx)
    (h0 : ∀ k : Fin 1024, x0 (Idealize.ShloMosaic.ix2 r k) = a (Idealize.ShloMosaic.ix2 (i 0) k))
    (h1 : ∀ k : Fin 1024, x1 (Idealize.ShloMosaic.ix3 0 s k) = b (Idealize.ShloMosaic.ix3 ⟨(i 1).val / 1024, by have h : (i 1).val < 4096 := (i 1).isLt; omega⟩ ⟨(i 1).val % 1024, by omega⟩ k)) : dotG x0 x1 r s = prod a b i :=
  Finset.sum_congr rfl fun k _ => by rw [h0 k, h1 k]

/-- The saved relu, at the reference's reading of its own lines. -/
def ru (h : Vec Ideal S4096x1024 .bf16) (w : Vec Ideal S4x1024x1024 .bf16) (i : S4096x4096.Idx) : EReal := Cert.Reference2Ideal.Read.val_main_v7 (F := Ideal) h w i

theorem V_v6 (m : (ℓ : Loc nD τ sig) → Buf (Elt Ideal) ℓ) (c : Dev nD) : V m c main_v6 = fun i => ru (m ((c : Thread nD τ).loc main_arg0)) (m ((c : Thread nD τ).loc main_arg1)) i := by
  entry_read
  rfl

/-- What the call writes at a place. -/
def du (h : Vec Ideal S4096x1024 .bf16) (w1 w2 : Vec Ideal S4x1024x1024 .bf16) (d : Vec Ideal S4096x1024 .bf16) (i : S4096x4096.Idx) : EReal := prod d w2 i * (Ideal.ofBits .f32 0x40000000#32 * ru h w1 i)

theorem final (m : (ℓ : Loc nD τ sig) → Buf (Elt Ideal) ℓ) (c : Dev nD) :
    (dats m 0 c).arrAt 3 cfg0.N = fun i => du (m ((c : Thread nD τ).loc main_arg0)) (m ((c : Thread nD τ).loc main_arg1)) (m ((c : Thread nD τ).loc main_arg2)) (m ((c : Thread nD τ).loc main_arg3)) i := by
  refine (dats m 0 c).arrAt_eq_of_covers 3 _ (by decide +kernel) fun t hf y => ?_
  obtain ⟨e0, e1, e2, e3⟩ := idx t
  have ec := crd t
  blk_simp
  rw [after0_3]
  unfold outsAt0
  rw [out_apply]
  refine congr (congrArg HMul.hMul (dotG_eq _ _ _ _ _ _ _ (fun k => ?_) (fun k => ?_))) (congrArg _ ?_)
  · blk_point [iblk, V_main_arg3, e0, e3, ec]
  · blk_point [iblk, V_main_arg2, e1, e3, ec]
  · have hb : iblk m c 2 t y = V m c main_v6 ((win0_2.blk t).view.emb y) := rfl
    rw [hb, V_v6]
    refine congrArg (ru _ _) (funext fun d => Fin.ext ?_)
    match d with
    | ⟨0, _⟩ => blk_simp [e2, e3]
    | ⟨1, _⟩ => blk_simp [e2, e3]

theorem refp (d : Vec Ideal S4096x1024 .bf16) (w : Vec Ideal S4x1024x1024 .bf16) (i : S4096x4096.Idx) : Cert.Reference2Ideal.Read.val_main_v16 (F := Ideal) w d i = prod d w i := by
  rw [Cert.Reference2Ideal.Read.val_main_v16_apply]
  refine Finset.sum_congr rfl fun k _ => ?_
  rw [Cert.Reference2Ideal.Read.val_main_v14_apply]
  have h0 : (i 0).val < 4096 := (i 0).isLt
  have h1 : (i 1).val < 4096 := (i 1).isLt
  congr 1
  · refine congrArg d (funext fun d => Fin.ext ?_)
    match d with
    | ⟨0, _⟩ => rfl
    | ⟨1, _⟩ => rfl
  · refine congrArg w (funext fun d => Fin.ext ?_)
    match d with
    | ⟨0, _⟩ => show ((i 1).val * 1024 + k.val) / 1048576 = (i 1).val / 1024; omega
    | ⟨1, _⟩ => show ((i 1).val * 1024 + k.val) / 1024 % 1024 = (i 1).val % 1024; omega
    | ⟨2, _⟩ => show ((i 1).val * 1024 + k.val) % 1024 = k.val; omega

theorem refv (h : Vec Ideal S4096x1024 .bf16) (w1 w2 : Vec Ideal S4x1024x1024 .bf16) (d : Vec Ideal S4096x1024 .bf16) (i : S4096x4096.Idx) : Cert.Reference2Ideal.Read.val_main_v20 (F := Ideal) h w1 w2 d i = du h w1 w2 d i := by
  have e : ∀ p u z b : EReal, z = 0 → Scalar.select (Ideal.cmp .ogt u z) (p * (b * max u z)) z = p * (b * max u z) := by
    intro p u z b hz
    subst hz
    by_cases hu : 0 < u
    · rw [show Ideal.cmp .ogt u 0 = 1#1 by simp [Ideal.cmp, hu]]
      rfl
    · rw [show Ideal.cmp .ogt u 0 = 0#1 by simp [Ideal.cmp, hu], max_eq_right (not_lt.mp hu), mul_zero, mul_zero]
      rfl
  rw [Cert.Reference2Ideal.Read.val_main_v20_apply, Cert.Reference2Ideal.Read.val_main_v19_apply, Cert.Reference2Ideal.Read.val_main_v17_apply, refp]
  exact e (prod d w2 i) (Cert.Reference2Ideal.Read.val_main_v6 (F := Ideal) h w1 i) (Ideal.ofBits .f32 0x00000000#32) (Ideal.ofBits .f32 0x40000000#32) Ideal.ofBits_zero_f32

theorem algebraic : Cert.algebraic_Kernel2Ideal_Reference2Ideal := by
  intro m g m' g' _ hm
  refine ⟨fun c i => du (m ((c : Thread nD τ).loc main_arg0)) (m ((c : Thread nD τ).loc main_arg1)) (m ((c : Thread nD τ).loc main_arg2)) (m ((c : Thread nD τ).loc main_arg3)) i, ?_, ?_⟩
  · exact (θ_run _ _ _).mono (fun r h c => ⟨(h c).1.trans (final m c), (h c).2⟩) (Cert.Kernel2Ideal.Value.run_blocks (F := Ideal) m g)
  · refine (θ_run _ _ _).mono (fun r h c => ?_) (Cert.Reference2Ideal.Value.run (F := Ideal) m' g')
    refine ⟨(h c).1.trans ((Cert.Reference2Ideal.Read.val_main_v20_eq _ _ _ _).trans ?_), (h c).2⟩
    funext i
    rw [refv, (hm c).1, (hm c).2.1, (hm c).2.2.1, (hm c).2.2.2]

end Mm2
-- ==== Proof.Mm3.lean ====
/- The gradient of the second weight of the channel mixer: what its call writes is what the reference computes. -/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit

@[expose] public section

noncomputable section

namespace Mm3

open Idealize.ShloMosaic Idealize.ShloMosaic.TcCoe Idealize.SL.Sem Cert.Kernel3Ideal Cert.Kernel3Ideal.Gen

/-- The gradient at a place: the activations' column against the cotangent's column, summed over the tokens. -/
def grad (a : Vec Ideal S4096x4096 .bf16) (b : Vec Ideal S4096x1024 .bf16) (i : S4x1024x1024.Idx) : EReal :=
  ∑ k : Fin 4096, a (Idealize.ShloMosaic.ix2 k ⟨(i 0).val * 1024 + (i 1).val, by have h0 : (i 0).val < 4 := (i 0).isLt; have h1 : (i 1).val < 1024 := (i 1).isLt; omega⟩) * b (Idealize.ShloMosaic.ix2 k (i 2))

/-- One block of the gradient. -/
def blockG (x0 : Vec Ideal S4096x1024 .bf16) (x1 : Vec Ideal S4096x1024 .bf16) (y : S1x1024x1024.Idx) : EReal :=
  ∑ k : Fin 4096, x0 (Idealize.ShloMosaic.ix2 k (y 1)) * x1 (Idealize.ShloMosaic.ix2 k (y 2))

theorem blockG_eq (x0 x1 : Vec Ideal S4096x1024 .bf16) (a : Vec Ideal S4096x4096 .bf16) (b : Vec Ideal S4096x1024 .bf16) (y : S1x1024x1024.Idx) (i : S4x1024x1024.Idx)
    (h0 : ∀ k : Fin 4096, x0 (Idealize.ShloMosaic.ix2 k (y 1)) = a (Idealize.ShloMosaic.ix2 k ⟨(i 0).val * 1024 + (i 1).val, by have h0 : (i 0).val < 4 := (i 0).isLt; have h1 : (i 1).val < 1024 := (i 1).isLt; omega⟩))
    (h1 : ∀ k : Fin 4096, x1 (Idealize.ShloMosaic.ix2 k (y 2)) = b (Idealize.ShloMosaic.ix2 k (i 2))) : blockG x0 x1 y = grad a b i :=
  Finset.sum_congr rfl fun k _ => by rw [h0 k, h1 k]

theorem out2_apply (x0 x1 : Vec Ideal S4096x1024 .bf16) (y : S1x1024x1024.Idx) : out0_2 x0 x1 y = blockG x0 x1 y := by
  refine View.canon_apply_of_pieces (Val := Elt Ideal) (e := .f32) (blockG x0 x1) _ ?_ y (cover0_2 _ _ y)
  intro pc hpc
  rcases List.mem_cons.mp hpc with rfl | hpc
  · intro x
    pointwise [k0_pay5, k0_pay4, blockG]
    refine Finset.sum_congr rfl fun k _ => ?_
    have e1 : (r0_4.emb x 1).val = 512 + (x 1).val := ValueKit.rect_emb_unit_val _ _ _ _ _
    have e2 : (r0_4.emb x 2).val = (x 2).val := (ValueKit.rect_emb_unit_val _ _ _ _ _).trans (Nat.zero_add _)
    congr 1
    · exact congrArg (fun n => x0 (Idealize.ShloMosaic.ix2 k n)) (Fin.ext e1.symm)
    · exact congrArg (fun n => x1 (Idealize.ShloMosaic.ix2 k n)) (Fin.ext e2.symm)
  rcases List.mem_singleton.mp hpc with rfl
  · intro x
    pointwise [k0_pay2, k0_pay1, blockG]
    refine Finset.sum_congr rfl fun k _ => ?_
    have e1 : (r0_2.emb x 1).val = (x 1).val := (ValueKit.rect_emb_unit_val _ _ _ _ _).trans (Nat.zero_add _)
    have e2 : (r0_2.emb x 2).val = (x 2).val := (ValueKit.rect_emb_unit_val _ _ _ _ _).trans (Nat.zero_add _)
    congr 1
    · exact congrArg (fun n => x0 (Idealize.ShloMosaic.ix2 k n)) (Fin.ext e1.symm)
    · exact congrArg (fun n => x1 (Idealize.ShloMosaic.ix2 k n)) (Fin.ext e2.symm)

theorem out3_apply (x0 x1 : Vec Ideal S4096x1024 .bf16) (y : S1x1024x1024.Idx) : out0_3 x0 x1 y = blockG x0 x1 y := by
  refine View.canon_apply_of_pieces (Val := Elt Ideal) (e := .bf16) (blockG x0 x1) _ ?_ y (cover0_3 _ _ y)
  intro pc hpc
  rcases List.mem_cons.mp hpc with rfl | hpc
  · intro x
    pointwise [k0_pay6, k0_pay5, k0_pay4, blockG]
    refine Finset.sum_congr rfl fun k _ => ?_
    have e1 : (r0_4.emb x 1).val = 512 + (x 1).val := ValueKit.rect_emb_unit_val _ _ _ _ _
    have e2 : (r0_4.emb x 2).val = (x 2).val := (ValueKit.rect_emb_unit_val _ _ _ _ _).trans (Nat.zero_add _)
    congr 1
    · exact congrArg (fun n => x0 (Idealize.ShloMosaic.ix2 k n)) (Fin.ext e1.symm)
    · exact congrArg (fun n => x1 (Idealize.ShloMosaic.ix2 k n)) (Fin.ext e2.symm)
  rcases List.mem_singleton.mp hpc with rfl
  · intro x
    pointwise [k0_pay3, k0_pay2, k0_pay1, blockG]
    refine Finset.sum_congr rfl fun k _ => ?_
    have e1 : (r0_2.emb x 1).val = (x 1).val := (ValueKit.rect_emb_unit_val _ _ _ _ _).trans (Nat.zero_add _)
    have e2 : (r0_2.emb x 2).val = (x 2).val := (ValueKit.rect_emb_unit_val _ _ _ _ _).trans (Nat.zero_add _)
    congr 1
    · exact congrArg (fun n => x0 (Idealize.ShloMosaic.ix2 k n)) (Fin.ext e1.symm)
    · exact congrArg (fun n => x1 (Idealize.ShloMosaic.ix2 k n)) (Fin.ext e2.symm)

theorem ref7 (a : Vec Ideal S4096x4096 .bf16) (b : Vec Ideal S4096x1024 .bf16) (i : S4x1024x1024.Idx) : Cert.Reference3Ideal.Read.val_main_v7 (F := Ideal) a b i = grad a b i := by
  rw [Cert.Reference3Ideal.Read.val_main_v7_apply, Cert.Reference3Ideal.Read.val_main_v6_apply, Cert.Reference3Ideal.Read.val_main_v5_apply]
  refine Finset.sum_congr rfl fun k _ => ?_
  rw [mul_comm]
  have h0 : (i 0).val < 4 := (i 0).isLt
  have h1 : (i 1).val < 1024 := (i 1).isLt
  have h2 : (i 2).val < 1024 := (i 2).isLt
  congr 1
  · refine congrArg a (funext fun d => Fin.ext ?_)
    match d with
    | ⟨0, _⟩ => rfl
    | ⟨1, _⟩ => show (((i 0).val * 1024 + (i 1).val) * 1024 + (i 2).val) / 1024 = (i 0).val * 1024 + (i 1).val; omega
  · refine congrArg b (funext fun d => Fin.ext ?_)
    match d with
    | ⟨0, _⟩ => rfl
    | ⟨1, _⟩ => show (((i 0).val * 1024 + (i 1).val) * 1024 + (i 2).val) % 1024 = (i 2).val; omega

theorem idx : ∀ t : Fin cfg0.grid.N, win0_0.index t = ![0, t.val] ∧ win0_1.index t = ![0, 0] ∧ win0_2.index t = ![t.val, 0, 0] ∧ win0_3.index t = ![t.val, 0, 0] := by
  decide +kernel

theorem final2 (m : (ℓ : Loc nD τ sig) → Buf (Elt Ideal) ℓ) (c : Dev nD) :
    (dats m 0 c).arrAt 2 cfg0.N = fun i => grad (m ((c : Thread nD τ).loc main_arg0)) (m ((c : Thread nD τ).loc main_arg1)) i := by
  refine (dats m 0 c).arrAt_eq_of_covers 2 _ (by decide +kernel) fun t hf y => ?_
  obtain ⟨e0, e1, e2, -⟩ := idx t
  blk_simp
  rw [after0_2, out2_apply]
  refine blockG_eq _ _ _ _ _ _ (fun k => ?_) (fun k => ?_)
  · blk_point [iblk, V, e0, e2]
  · blk_point [iblk, V, e1, e2]

theorem final3 (m : (ℓ : Loc nD τ sig) → Buf (Elt Ideal) ℓ) (c : Dev nD) :
    (dats m 0 c).arrAt 3 cfg0.N = fun i => grad (m ((c : Thread nD τ).loc main_arg0)) (m ((c : Thread nD τ).loc main_arg1)) i := by
  refine (dats m 0 c).arrAt_eq_of_covers 3 _ (by decide +kernel) fun t hf y => ?_
  obtain ⟨e0, e1, -, e2⟩ := idx t
  blk_simp
  rw [after0_3, out3_apply]
  refine blockG_eq _ _ _ _ _ _ (fun k => ?_) (fun k => ?_)
  · blk_point [iblk, V, e0, e2]
  · blk_point [iblk, V, e1, e2]

theorem algebraic : Cert.algebraic_Kernel3Ideal_Reference3Ideal := by
  intro m g m' g' _ hm
  refine ⟨fun c i => grad (m ((c : Thread nD τ).loc main_arg0)) (m ((c : Thread nD τ).loc main_arg1)) i,
    fun c i => grad (m ((c : Thread nD τ).loc main_arg0)) (m ((c : Thread nD τ).loc main_arg1)) i, ?_, ?_⟩
  · exact (θ_run _ _ _).mono (fun r h c => ⟨(h c).1.trans (final2 m c), (h c).2.1.trans (final3 m c), (h c).2.2⟩) (Cert.Kernel3Ideal.Value.run_blocks (F := Ideal) m g)
  · refine (θ_run _ _ _).mono (fun r h c => ?_) (Cert.Reference3Ideal.Value.run (F := Ideal) m' g')
    have e : (fun i => Cert.Reference3Ideal.Read.val_main_v7 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) i) = fun i => grad (m ((c : Thread nD τ).loc main_arg0)) (m ((c : Thread nD τ).loc main_arg1)) i := by
      funext i
      rw [ref7, (hm c).1, (hm c).2]
    exact ⟨(h c).1.trans e, (h c).2.1.trans e, (h c).2.2⟩

end Mm3
-- ==== Proof.Mm4.lean ====
/- The gradient of the first weight of the channel mixer: what its call writes is what the reference computes. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit

@[expose] public section

noncomputable section

namespace Mm4

open Idealize.ShloMosaic Idealize.ShloMosaic.TcCoe Idealize.SL.Sem Cert.Kernel4Ideal Cert.Kernel4Ideal.Gen

/-- The gradient at a place: a column of the left operand against a column of the cotangent, summed over the tokens. -/
def grad (a : Vec Ideal S4096x1024 .bf16) (b : Vec Ideal S4096x4096 .bf16) (i : S4x1024x1024.Idx) : EReal :=
  ∑ k : Fin 4096, a (Idealize.ShloMosaic.ix2 k (i 1)) * b (Idealize.ShloMosaic.ix2 k ⟨(i 0).val * 1024 + (i 2).val, by have h0 : (i 0).val < 4 := (i 0).isLt; have h2 : (i 2).val < 1024 := (i 2).isLt; omega⟩)

/-- One block of the gradient. -/
def blockG (x0 : Vec Ideal S4096x1024 .bf16) (x1 : Vec Ideal S4096x1024 .bf16) (y : S1x1024x1024.Idx) : EReal :=
  ∑ k : Fin 4096, x0 (Idealize.ShloMosaic.ix2 k (y 1)) * x1 (Idealize.ShloMosaic.ix2 k (y 2))

theorem blockG_eq (x0 : Vec Ideal S4096x1024 .bf16) (x1 : Vec Ideal S4096x1024 .bf16) (a : Vec Ideal S4096x1024 .bf16) (b : Vec Ideal S4096x4096 .bf16) (y : S1x1024x1024.Idx) (i : S4x1024x1024.Idx)
    (h0 : ∀ k : Fin 4096, x0 (Idealize.ShloMosaic.ix2 k (y 1)) = a (Idealize.ShloMosaic.ix2 k (i 1)))
    (h1 : ∀ k : Fin 4096, x1 (Idealize.ShloMosaic.ix2 k (y 2)) = b (Idealize.ShloMosaic.ix2 k ⟨(i 0).val * 1024 + (i 2).val, by have h0 : (i 0).val < 4 := (i 0).isLt; have h2 : (i 2).val < 1024 := (i 2).isLt; omega⟩)) : blockG x0 x1 y = grad a b i :=
  Finset.sum_congr rfl fun k _ => by rw [h0 k, h1 k]

theorem out2_apply (x0 : Vec Ideal S4096x1024 .bf16) (x1 : Vec Ideal S4096x1024 .bf16) (y : S1x1024x1024.Idx) : out0_2 x0 x1 y = blockG x0 x1 y := by
  refine View.canon_apply_of_pieces (Val := Elt Ideal) (e := .f32) (blockG x0 x1) _ ?_ y (cover0_2 _ _ y)
  intro pc hpc
  rcases List.mem_cons.mp hpc with rfl | hpc
  · intro x
    pointwise [k0_pay5, k0_pay4, blockG]
    refine Finset.sum_congr rfl fun k _ => ?_
    have e1 : (r0_4.emb x 1).val = 512 + (x 1).val := ValueKit.rect_emb_unit_val _ _ _ _ _
    have e2 : (r0_4.emb x 2).val = (x 2).val := (ValueKit.rect_emb_unit_val _ _ _ _ _).trans (Nat.zero_add _)
    congr 1
    · exact congrArg (fun n => x0 (Idealize.ShloMosaic.ix2 k n)) (Fin.ext e1.symm)
    · exact congrArg (fun n => x1 (Idealize.ShloMosaic.ix2 k n)) (Fin.ext e2.symm)
  rcases List.mem_singleton.mp hpc with rfl
  · intro x
    pointwise [k0_pay2, k0_pay1, blockG]
    refine Finset.sum_congr rfl fun k _ => ?_
    have e1 : (r0_2.emb x 1).val = (x 1).val := (ValueKit.rect_emb_unit_val _ _ _ _ _).trans (Nat.zero_add _)
    have e2 : (r0_2.emb x 2).val = (x 2).val := (ValueKit.rect_emb_unit_val _ _ _ _ _).trans (Nat.zero_add _)
    congr 1
    · exact congrArg (fun n => x0 (Idealize.ShloMosaic.ix2 k n)) (Fin.ext e1.symm)
    · exact congrArg (fun n => x1 (Idealize.ShloMosaic.ix2 k n)) (Fin.ext e2.symm)

theorem out3_apply (x0 : Vec Ideal S4096x1024 .bf16) (x1 : Vec Ideal S4096x1024 .bf16) (y : S1x1024x1024.Idx) : out0_3 x0 x1 y = blockG x0 x1 y := by
  refine View.canon_apply_of_pieces (Val := Elt Ideal) (e := .bf16) (blockG x0 x1) _ ?_ y (cover0_3 _ _ y)
  intro pc hpc
  rcases List.mem_cons.mp hpc with rfl | hpc
  · intro x
    pointwise [k0_pay6, k0_pay5, k0_pay4, blockG]
    refine Finset.sum_congr rfl fun k _ => ?_
    have e1 : (r0_4.emb x 1).val = 512 + (x 1).val := ValueKit.rect_emb_unit_val _ _ _ _ _
    have e2 : (r0_4.emb x 2).val = (x 2).val := (ValueKit.rect_emb_unit_val _ _ _ _ _).trans (Nat.zero_add _)
    congr 1
    · exact congrArg (fun n => x0 (Idealize.ShloMosaic.ix2 k n)) (Fin.ext e1.symm)
    · exact congrArg (fun n => x1 (Idealize.ShloMosaic.ix2 k n)) (Fin.ext e2.symm)
  rcases List.mem_singleton.mp hpc with rfl
  · intro x
    pointwise [k0_pay3, k0_pay2, k0_pay1, blockG]
    refine Finset.sum_congr rfl fun k _ => ?_
    have e1 : (r0_2.emb x 1).val = (x 1).val := (ValueKit.rect_emb_unit_val _ _ _ _ _).trans (Nat.zero_add _)
    have e2 : (r0_2.emb x 2).val = (x 2).val := (ValueKit.rect_emb_unit_val _ _ _ _ _).trans (Nat.zero_add _)
    congr 1
    · exact congrArg (fun n => x0 (Idealize.ShloMosaic.ix2 k n)) (Fin.ext e1.symm)
    · exact congrArg (fun n => x1 (Idealize.ShloMosaic.ix2 k n)) (Fin.ext e2.symm)

theorem refv (a : Vec Ideal S4096x1024 .bf16) (b : Vec Ideal S4096x4096 .bf16) (i : S4x1024x1024.Idx) : Cert.Reference4Ideal.Read.val_main_v9 (F := Ideal) a b i = grad a b i := by
  rw [Cert.Reference4Ideal.Read.val_main_v9_apply, Cert.Reference4Ideal.Read.val_main_v8_apply, Cert.Reference4Ideal.Read.val_main_v7_apply, Cert.Reference4Ideal.Read.val_main_v6_apply]
  refine Finset.sum_congr rfl fun k _ => ?_
  rw [mul_comm]
  have h0 : (i 0).val < 4 := (i 0).isLt
  have h1 : (i 1).val < 1024 := (i 1).isLt
  have h2 : (i 2).val < 1024 := (i 2).isLt
  congr 1
  · refine congrArg a (funext fun d => Fin.ext ?_)
    match d with
    | ⟨0, _⟩ => rfl
    | ⟨1, _⟩ => show (((i 1).val * 4 + (i 0).val) * 1024 + (i 2).val) / 4096 = (i 1).val; omega
  · refine congrArg b (funext fun d => Fin.ext ?_)
    match d with
    | ⟨0, _⟩ => rfl
    | ⟨1, _⟩ => show (((i 1).val * 4 + (i 0).val) * 1024 + (i 2).val) % 4096 = (i 0).val * 1024 + (i 2).val; omega

theorem idx : ∀ t : Fin cfg0.grid.N, win0_0.index t = ![0, 0] ∧ win0_1.index t = ![0, t.val] ∧ win0_2.index t = ![t.val, 0, 0] ∧ win0_3.index t = ![t.val, 0, 0] := by
  decide +kernel

theorem final2 (m : (ℓ : Loc nD τ sig) → Buf (Elt Ideal) ℓ) (c : Dev nD) :
    (dats m 0 c).arrAt 2 cfg0.N = fun i => grad (m ((c : Thread nD τ).loc main_arg0)) (m ((c : Thread nD τ).loc main_arg1)) i := by
  refine (dats m 0 c).arrAt_eq_of_covers 2 _ (by decide +kernel) fun t hf y => ?_
  obtain ⟨e0, e1, e2, -⟩ := idx t
  blk_simp
  rw [after0_2, out2_apply]
  refine blockG_eq _ _ _ _ _ _ (fun k => ?_) (fun k => ?_)
  · blk_point [iblk, V, e0, e2]
  · blk_point [iblk, V, e1, e2]

theorem final3 (m : (ℓ : Loc nD τ sig) → Buf (Elt Ideal) ℓ) (c : Dev nD) :
    (dats m 0 c).arrAt 3 cfg0.N = fun i => grad (m ((c : Thread nD τ).loc main_arg0)) (m ((c : Thread nD τ).loc main_arg1)) i := by
  refine (dats m 0 c).arrAt_eq_of_covers 3 _ (by decide +kernel) fun t hf y => ?_
  obtain ⟨e0, e1, -, e2⟩ := idx t
  blk_simp
  rw [after0_3, out3_apply]
  refine blockG_eq _ _ _ _ _ _ (fun k => ?_) (fun k => ?_)
  · blk_point [iblk, V, e0, e2]
  · blk_point [iblk, V, e1, e2]

theorem algebraic : Cert.algebraic_Kernel4Ideal_Reference4Ideal := by
  intro m g m' g' _ hm
  refine ⟨fun c i => grad (m ((c : Thread nD τ).loc main_arg0)) (m ((c : Thread nD τ).loc main_arg1)) i,
    fun c i => grad (m ((c : Thread nD τ).loc main_arg0)) (m ((c : Thread nD τ).loc main_arg1)) i, ?_, ?_⟩
  · exact (θ_run _ _ _).mono (fun r h c => ⟨(h c).1.trans (final2 m c), (h c).2.1.trans (final3 m c), (h c).2.2⟩) (Cert.Kernel4Ideal.Value.run_blocks (F := Ideal) m g)
  · refine (θ_run _ _ _).mono (fun r h c => ?_) (Cert.Reference4Ideal.Value.run (F := Ideal) m' g')
    have e : (fun i => Cert.Reference4Ideal.Read.val_main_v9 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) i) = fun i => grad (m ((c : Thread nD τ).loc main_arg0)) (m ((c : Thread nD τ).loc main_arg1)) i := by
      funext i
      rw [refv, (hm c).1, (hm c).2]
    exact ⟨(h c).1.trans e, (h c).2.1.trans e, (h c).2.2⟩

end Mm4
-- ==== Proof.Mm5.lean ====
/- The gradient of the input projection's weight: what its call writes is what the reference computes. -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit

@[expose] public section

noncomputable section

namespace Mm5

open Idealize.ShloMosaic Idealize.ShloMosaic.TcCoe Idealize.SL.Sem Cert.Kernel5Ideal Cert.Kernel5Ideal.Gen

/-- The gradient at a place: a column of the left operand against a column of the cotangent, summed over the tokens. -/
def grad (a : Vec Ideal S4096x1024 .bf16) (b : Vec Ideal S4096x3584 .bf16) (i : S4x1024x896.Idx) : EReal :=
  ∑ k : Fin 4096, a (Idealize.ShloMosaic.ix2 k (i 1)) * b (Idealize.ShloMosaic.ix2 k ⟨(i 0).val * 896 + (i 2).val, by have h0 : (i 0).val < 4 := (i 0).isLt; have h2 : (i 2).val < 896 := (i 2).isLt; omega⟩)

/-- One block of the gradient. -/
def blockG (x0 : Vec Ideal S4096x1024 .bf16) (x1 : Vec Ideal S4096x896 .bf16) (y : S1x1024x896.Idx) : EReal :=
  ∑ k : Fin 4096, x0 (Idealize.ShloMosaic.ix2 k (y 1)) * x1 (Idealize.ShloMosaic.ix2 k (y 2))

theorem blockG_eq (x0 : Vec Ideal S4096x1024 .bf16) (x1 : Vec Ideal S4096x896 .bf16) (a : Vec Ideal S4096x1024 .bf16) (b : Vec Ideal S4096x3584 .bf16) (y : S1x1024x896.Idx) (i : S4x1024x896.Idx)
    (h0 : ∀ k : Fin 4096, x0 (Idealize.ShloMosaic.ix2 k (y 1)) = a (Idealize.ShloMosaic.ix2 k (i 1)))
    (h1 : ∀ k : Fin 4096, x1 (Idealize.ShloMosaic.ix2 k (y 2)) = b (Idealize.ShloMosaic.ix2 k ⟨(i 0).val * 896 + (i 2).val, by have h0 : (i 0).val < 4 := (i 0).isLt; have h2 : (i 2).val < 896 := (i 2).isLt; omega⟩)) : blockG x0 x1 y = grad a b i :=
  Finset.sum_congr rfl fun k _ => by rw [h0 k, h1 k]

theorem out2_apply (x0 : Vec Ideal S4096x1024 .bf16) (x1 : Vec Ideal S4096x896 .bf16) (y : S1x1024x896.Idx) : out0_2 x0 x1 y = blockG x0 x1 y := by
  refine View.canon_apply_of_pieces (Val := Elt Ideal) (e := .f32) (blockG x0 x1) _ ?_ y (cover0_2 _ _ y)
  intro pc hpc
  rcases List.mem_cons.mp hpc with rfl | hpc
  · intro x
    pointwise [k0_pay5, k0_pay4, blockG]
    refine Finset.sum_congr rfl fun k _ => ?_
    have e1 : (r0_4.emb x 1).val = 512 + (x 1).val := ValueKit.rect_emb_unit_val _ _ _ _ _
    have e2 : (r0_4.emb x 2).val = (x 2).val := (ValueKit.rect_emb_unit_val _ _ _ _ _).trans (Nat.zero_add _)
    congr 1
    · exact congrArg (fun n => x0 (Idealize.ShloMosaic.ix2 k n)) (Fin.ext e1.symm)
    · exact congrArg (fun n => x1 (Idealize.ShloMosaic.ix2 k n)) (Fin.ext e2.symm)
  rcases List.mem_singleton.mp hpc with rfl
  · intro x
    pointwise [k0_pay2, k0_pay1, blockG]
    refine Finset.sum_congr rfl fun k _ => ?_
    have e1 : (r0_2.emb x 1).val = (x 1).val := (ValueKit.rect_emb_unit_val _ _ _ _ _).trans (Nat.zero_add _)
    have e2 : (r0_2.emb x 2).val = (x 2).val := (ValueKit.rect_emb_unit_val _ _ _ _ _).trans (Nat.zero_add _)
    congr 1
    · exact congrArg (fun n => x0 (Idealize.ShloMosaic.ix2 k n)) (Fin.ext e1.symm)
    · exact congrArg (fun n => x1 (Idealize.ShloMosaic.ix2 k n)) (Fin.ext e2.symm)

theorem out3_apply (x0 : Vec Ideal S4096x1024 .bf16) (x1 : Vec Ideal S4096x896 .bf16) (y : S1x1024x896.Idx) : out0_3 x0 x1 y = blockG x0 x1 y := by
  refine View.canon_apply_of_pieces (Val := Elt Ideal) (e := .bf16) (blockG x0 x1) _ ?_ y (cover0_3 _ _ y)
  intro pc hpc
  rcases List.mem_cons.mp hpc with rfl | hpc
  · intro x
    pointwise [k0_pay6, k0_pay5, k0_pay4, blockG]
    refine Finset.sum_congr rfl fun k _ => ?_
    have e1 : (r0_4.emb x 1).val = 512 + (x 1).val := ValueKit.rect_emb_unit_val _ _ _ _ _
    have e2 : (r0_4.emb x 2).val = (x 2).val := (ValueKit.rect_emb_unit_val _ _ _ _ _).trans (Nat.zero_add _)
    congr 1
    · exact congrArg (fun n => x0 (Idealize.ShloMosaic.ix2 k n)) (Fin.ext e1.symm)
    · exact congrArg (fun n => x1 (Idealize.ShloMosaic.ix2 k n)) (Fin.ext e2.symm)
  rcases List.mem_singleton.mp hpc with rfl
  · intro x
    pointwise [k0_pay3, k0_pay2, k0_pay1, blockG]
    refine Finset.sum_congr rfl fun k _ => ?_
    have e1 : (r0_2.emb x 1).val = (x 1).val := (ValueKit.rect_emb_unit_val _ _ _ _ _).trans (Nat.zero_add _)
    have e2 : (r0_2.emb x 2).val = (x 2).val := (ValueKit.rect_emb_unit_val _ _ _ _ _).trans (Nat.zero_add _)
    congr 1
    · exact congrArg (fun n => x0 (Idealize.ShloMosaic.ix2 k n)) (Fin.ext e1.symm)
    · exact congrArg (fun n => x1 (Idealize.ShloMosaic.ix2 k n)) (Fin.ext e2.symm)

theorem refv (a : Vec Ideal S4096x1024 .bf16) (b : Vec Ideal S4096x3584 .bf16) (i : S4x1024x896.Idx) : Cert.Reference5Ideal.Read.val_main_v9 (F := Ideal) a b i = grad a b i := by
  rw [Cert.Reference5Ideal.Read.val_main_v9_apply, Cert.Reference5Ideal.Read.val_main_v8_apply, Cert.Reference5Ideal.Read.val_main_v7_apply, Cert.Reference5Ideal.Read.val_main_v6_apply]
  refine Finset.sum_congr rfl fun k _ => ?_
  rw [mul_comm]
  have h0 : (i 0).val < 4 := (i 0).isLt
  have h1 : (i 1).val < 1024 := (i 1).isLt
  have h2 : (i 2).val < 896 := (i 2).isLt
  congr 1
  · refine congrArg a (funext fun d => Fin.ext ?_)
    match d with
    | ⟨0, _⟩ => rfl
    | ⟨1, _⟩ => show (((i 1).val * 4 + (i 0).val) * 896 + (i 2).val) / 3584 = (i 1).val; omega
  · refine congrArg b (funext fun d => Fin.ext ?_)
    match d with
    | ⟨0, _⟩ => rfl
    | ⟨1, _⟩ => show (((i 1).val * 4 + (i 0).val) * 896 + (i 2).val) % 3584 = (i 0).val * 896 + (i 2).val; omega

theorem idx : ∀ t : Fin cfg0.grid.N, win0_0.index t = ![0, 0] ∧ win0_1.index t = ![0, t.val] ∧ win0_2.index t = ![t.val, 0, 0] ∧ win0_3.index t = ![t.val, 0, 0] := by
  decide +kernel

theorem final2 (m : (ℓ : Loc nD τ sig) → Buf (Elt Ideal) ℓ) (c : Dev nD) :
    (dats m 0 c).arrAt 2 cfg0.N = fun i => grad (m ((c : Thread nD τ).loc main_arg0)) (m ((c : Thread nD τ).loc main_arg1)) i := by
  refine (dats m 0 c).arrAt_eq_of_covers 2 _ (by decide +kernel) fun t hf y => ?_
  obtain ⟨e0, e1, e2, -⟩ := idx t
  blk_simp
  rw [after0_2, out2_apply]
  refine blockG_eq _ _ _ _ _ _ (fun k => ?_) (fun k => ?_)
  · blk_point [iblk, V, e0, e2]
  · blk_point [iblk, V, e1, e2]

theorem final3 (m : (ℓ : Loc nD τ sig) → Buf (Elt Ideal) ℓ) (c : Dev nD) :
    (dats m 0 c).arrAt 3 cfg0.N = fun i => grad (m ((c : Thread nD τ).loc main_arg0)) (m ((c : Thread nD τ).loc main_arg1)) i := by
  refine (dats m 0 c).arrAt_eq_of_covers 3 _ (by decide +kernel) fun t hf y => ?_
  obtain ⟨e0, e1, -, e2⟩ := idx t
  blk_simp
  rw [after0_3, out3_apply]
  refine blockG_eq _ _ _ _ _ _ (fun k => ?_) (fun k => ?_)
  · blk_point [iblk, V, e0, e2]
  · blk_point [iblk, V, e1, e2]

theorem algebraic : Cert.algebraic_Kernel5Ideal_Reference5Ideal := by
  intro m g m' g' _ hm
  refine ⟨fun c i => grad (m ((c : Thread nD τ).loc main_arg0)) (m ((c : Thread nD τ).loc main_arg1)) i,
    fun c i => grad (m ((c : Thread nD τ).loc main_arg0)) (m ((c : Thread nD τ).loc main_arg1)) i, ?_, ?_⟩
  · exact (θ_run _ _ _).mono (fun r h c => ⟨(h c).1.trans (final2 m c), (h c).2.1.trans (final3 m c), (h c).2.2⟩) (Cert.Kernel5Ideal.Value.run_blocks (F := Ideal) m g)
  · refine (θ_run _ _ _).mono (fun r h c => ?_) (Cert.Reference5Ideal.Value.run (F := Ideal) m' g')
    have e : (fun i => Cert.Reference5Ideal.Read.val_main_v9 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) i) = fun i => grad (m ((c : Thread nD τ).loc main_arg0)) (m ((c : Thread nD τ).loc main_arg1)) i := by
      funext i
      rw [refv, (hm c).1, (hm c).2]
    exact ⟨(h c).1.trans e, (h c).2.1.trans e, (h c).2.2⟩

end Mm5
-- ==== Proof.Mm6.lean ====
/- The gradient of the output projection's weight: what its call writes is what the reference computes. -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit

@[expose] public section

noncomputable section

namespace Mm6

open Idealize.ShloMosaic Idealize.ShloMosaic.TcCoe Idealize.SL.Sem Cert.Kernel6Ideal Cert.Kernel6Ideal.Gen

/-- The gradient at a place: a column of the left operand against a column of the cotangent, summed over the tokens. -/
def grad (a : Vec Ideal S4096x1024 .bf16) (b : Vec Ideal S4096x1024 .bf16) (i : S4x256x1024.Idx) : EReal :=
  ∑ k : Fin 4096, a (Idealize.ShloMosaic.ix2 k ⟨(i 0).val * 256 + (i 1).val, by have h0 : (i 0).val < 4 := (i 0).isLt; have h1 : (i 1).val < 256 := (i 1).isLt; omega⟩) * b (Idealize.ShloMosaic.ix2 k (i 2))

/-- One block of the gradient. -/
def blockG (x0 : Vec Ideal S4096x256 .bf16) (x1 : Vec Ideal S4096x1024 .bf16) (y : S1x256x1024.Idx) : EReal :=
  ∑ k : Fin 4096, x0 (Idealize.ShloMosaic.ix2 k (y 1)) * x1 (Idealize.ShloMosaic.ix2 k (y 2))

theorem blockG_eq (x0 : Vec Ideal S4096x256 .bf16) (x1 : Vec Ideal S4096x1024 .bf16) (a : Vec Ideal S4096x1024 .bf16) (b : Vec Ideal S4096x1024 .bf16) (y : S1x256x1024.Idx) (i : S4x256x1024.Idx)
    (h0 : ∀ k : Fin 4096, x0 (Idealize.ShloMosaic.ix2 k (y 1)) = a (Idealize.ShloMosaic.ix2 k ⟨(i 0).val * 256 + (i 1).val, by have h0 : (i 0).val < 4 := (i 0).isLt; have h1 : (i 1).val < 256 := (i 1).isLt; omega⟩))
    (h1 : ∀ k : Fin 4096, x1 (Idealize.ShloMosaic.ix2 k (y 2)) = b (Idealize.ShloMosaic.ix2 k (i 2))) : blockG x0 x1 y = grad a b i :=
  Finset.sum_congr rfl fun k _ => by rw [h0 k, h1 k]

theorem out2_apply (x0 : Vec Ideal S4096x256 .bf16) (x1 : Vec Ideal S4096x1024 .bf16) (y : S1x256x1024.Idx) : out0_2 x0 x1 y = blockG x0 x1 y := by
  refine View.canon_apply_of_pieces (Val := Elt Ideal) (e := .f32) (blockG x0 x1) _ ?_ y (cover0_2 _ y)
  intro pc hpc
  rcases List.mem_singleton.mp hpc with rfl
  · intro x
    pointwise [k0_pay2, k0_pay1, blockG]
    refine Finset.sum_congr rfl fun k _ => ?_
    have e1 : (r0_2.emb x 1).val = (x 1).val := (ValueKit.rect_emb_unit_val _ _ _ _ _).trans (Nat.zero_add _)
    have e2 : (r0_2.emb x 2).val = (x 2).val := (ValueKit.rect_emb_unit_val _ _ _ _ _).trans (Nat.zero_add _)
    congr 1
    · exact congrArg (fun n => x0 (Idealize.ShloMosaic.ix2 k n)) (Fin.ext e1.symm)
    · exact congrArg (fun n => x1 (Idealize.ShloMosaic.ix2 k n)) (Fin.ext e2.symm)

theorem out3_apply (x0 : Vec Ideal S4096x256 .bf16) (x1 : Vec Ideal S4096x1024 .bf16) (y : S1x256x1024.Idx) : out0_3 x0 x1 y = blockG x0 x1 y := by
  refine View.canon_apply_of_pieces (Val := Elt Ideal) (e := .bf16) (blockG x0 x1) _ ?_ y (cover0_3 _ y)
  intro pc hpc
  rcases List.mem_singleton.mp hpc with rfl
  · intro x
    pointwise [k0_pay3, k0_pay2, k0_pay1, blockG]
    refine Finset.sum_congr rfl fun k _ => ?_
    have e1 : (r0_2.emb x 1).val = (x 1).val := (ValueKit.rect_emb_unit_val _ _ _ _ _).trans (Nat.zero_add _)
    have e2 : (r0_2.emb x 2).val = (x 2).val := (ValueKit.rect_emb_unit_val _ _ _ _ _).trans (Nat.zero_add _)
    congr 1
    · exact congrArg (fun n => x0 (Idealize.ShloMosaic.ix2 k n)) (Fin.ext e1.symm)
    · exact congrArg (fun n => x1 (Idealize.ShloMosaic.ix2 k n)) (Fin.ext e2.symm)

theorem refv (a : Vec Ideal S4096x1024 .bf16) (b : Vec Ideal S4096x1024 .bf16) (i : S4x256x1024.Idx) : Cert.Reference6Ideal.Read.val_main_v7 (F := Ideal) a b i = grad a b i := by
  rw [Cert.Reference6Ideal.Read.val_main_v7_apply, Cert.Reference6Ideal.Read.val_main_v6_apply, Cert.Reference6Ideal.Read.val_main_v5_apply]
  refine Finset.sum_congr rfl fun k _ => ?_
  rw [mul_comm]
  have h0 : (i 0).val < 4 := (i 0).isLt
  have h1 : (i 1).val < 256 := (i 1).isLt
  have h2 : (i 2).val < 1024 := (i 2).isLt
  congr 1
  · refine congrArg a (funext fun d => Fin.ext ?_)
    match d with
    | ⟨0, _⟩ => rfl
    | ⟨1, _⟩ => show (((i 0).val * 256 + (i 1).val) * 1024 + (i 2).val) / 1024 = (i 0).val * 256 + (i 1).val; omega
  · refine congrArg b (funext fun d => Fin.ext ?_)
    match d with
    | ⟨0, _⟩ => rfl
    | ⟨1, _⟩ => show (((i 0).val * 256 + (i 1).val) * 1024 + (i 2).val) % 1024 = (i 2).val; omega

theorem idx : ∀ t : Fin cfg0.grid.N, win0_0.index t = ![0, t.val] ∧ win0_1.index t = ![0, 0] ∧ win0_2.index t = ![t.val, 0, 0] ∧ win0_3.index t = ![t.val, 0, 0] := by
  decide +kernel

theorem final2 (m : (ℓ : Loc nD τ sig) → Buf (Elt Ideal) ℓ) (c : Dev nD) :
    (dats m 0 c).arrAt 2 cfg0.N = fun i => grad (m ((c : Thread nD τ).loc main_arg0)) (m ((c : Thread nD τ).loc main_arg1)) i := by
  refine (dats m 0 c).arrAt_eq_of_covers 2 _ (by decide +kernel) fun t hf y => ?_
  obtain ⟨e0, e1, e2, -⟩ := idx t
  blk_simp
  rw [after0_2, out2_apply]
  refine blockG_eq _ _ _ _ _ _ (fun k => ?_) (fun k => ?_)
  · blk_point [iblk, V, e0, e2]
  · blk_point [iblk, V, e1, e2]

theorem final3 (m : (ℓ : Loc nD τ sig) → Buf (Elt Ideal) ℓ) (c : Dev nD) :
    (dats m 0 c).arrAt 3 cfg0.N = fun i => grad (m ((c : Thread nD τ).loc main_arg0)) (m ((c : Thread nD τ).loc main_arg1)) i := by
  refine (dats m 0 c).arrAt_eq_of_covers 3 _ (by decide +kernel) fun t hf y => ?_
  obtain ⟨e0, e1, -, e2⟩ := idx t
  blk_simp
  rw [after0_3, out3_apply]
  refine blockG_eq _ _ _ _ _ _ (fun k => ?_) (fun k => ?_)
  · blk_point [iblk, V, e0, e2]
  · blk_point [iblk, V, e1, e2]

theorem algebraic : Cert.algebraic_Kernel6Ideal_Reference6Ideal := by
  intro m g m' g' _ hm
  refine ⟨fun c i => grad (m ((c : Thread nD τ).loc main_arg0)) (m ((c : Thread nD τ).loc main_arg1)) i,
    fun c i => grad (m ((c : Thread nD τ).loc main_arg0)) (m ((c : Thread nD τ).loc main_arg1)) i, ?_, ?_⟩
  · exact (θ_run _ _ _).mono (fun r h c => ⟨(h c).1.trans (final2 m c), (h c).2.1.trans (final3 m c), (h c).2.2⟩) (Cert.Kernel6Ideal.Value.run_blocks (F := Ideal) m g)
  · refine (θ_run _ _ _).mono (fun r h c => ?_) (Cert.Reference6Ideal.Value.run (F := Ideal) m' g')
    have e : (fun i => Cert.Reference6Ideal.Read.val_main_v7 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) i) = fun i => grad (m ((c : Thread nD τ).loc main_arg0)) (m ((c : Thread nD τ).loc main_arg1)) i := by
      funext i
      rw [refv, (hm c).1, (hm c).2]
    exact ⟨(h c).1.trans e, (h c).2.1.trans e, (h c).2.2⟩

end Mm6
-- ==== Proof.Mm7.lean ====
/- The first product of the channel mixer, with the squared relu: what its call writes is what the reference computes. -/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.WholeRead
public import Idealize.ShloMosaic.Lib.Pipeline.ValueKit

@[expose] public section

noncomputable section

namespace Mm7

open Idealize.ShloMosaic Idealize.ShloMosaic.TcCoe Idealize.SL.Sem Cert.Kernel7Ideal Cert.Kernel7Ideal.Gen

/-- The product at a place: a row of the activations against a column of the weight. -/
def prod (a : Vec Ideal S4096x1024 .bf16) (b : Vec Ideal S4x1024x1024 .bf16) (i : S4096x4096.Idx) : EReal :=
  ∑ k : Fin 1024, a (Idealize.ShloMosaic.ix2 (i 0) k) * b (Idealize.ShloMosaic.ix3 ⟨(i 1).val / 1024, by have h : (i 1).val < 4096 := (i 1).isLt; omega⟩ k ⟨(i 1).val % 1024, by omega⟩)

/-- Row `r` of the activations against column `s` of one block of the weight. -/
def dotG (x0 : Vec Ideal S4096x1024 .bf16) (x1 : Vec Ideal S1x1024x1024 .bf16) (r : Fin 4096) (s : Fin 1024) : EReal :=
  ∑ k : Fin 1024, x0 (Idealize.ShloMosaic.ix2 r k) * x1 (Idealize.ShloMosaic.ix3 0 k s)

/-- The relu of a sum. -/
def ruf (u : EReal) : EReal := max u 0

/-- Its square. -/
def sqf (u : EReal) : EReal := max u 0 * max u 0

theorem sum_dotG (A B : Fin 1024 → EReal) (x0 : Vec Ideal S4096x1024 .bf16) (x1 : Vec Ideal S1x1024x1024 .bf16) (r : Fin 4096) (s : Fin 1024)
    (h0 : ∀ k : Fin 1024, A k = x0 (Idealize.ShloMosaic.ix2 r k)) (h1 : ∀ k : Fin 1024, B k = x1 (Idealize.ShloMosaic.ix3 0 k s)) : ∑ k : Fin 1024, A k * B k = dotG x0 x1 r s :=
  Finset.sum_congr rfl fun k _ => by rw [h0 k, h1 k]

theorem row_lt (j : grid0.Coords) (y : S1024x1024.Idx) : 1024 * (j 1).val + (y 0).val < 4096 := by
  have h1 : (j 1).val < 4 := (j 1).isLt
  have h2 : (y 0).val < 1024 := (y 0).isLt
  omega

/-- A block of the product written at one point of the grid, after `f`. -/
def blockG (f : EReal → EReal) (j : grid0.Coords) (x0 : Vec Ideal S4096x1024 .bf16) (x1 : Vec Ideal S1x1024x1024 .bf16) (y : S1024x1024.Idx) : Elt Ideal .bf16 :=
  f (dotG x0 x1 ⟨1024 * (j 1).val + (y 0).val, row_lt j y⟩ (y 1))

theorem pay2_apply (a : Vec Ideal S512x1024 .bf16) (w : Vec Ideal S1x1024x1024 .bf16) (z : S512x1024.Idx) :
    k0_pay2 a w z = sqf (∑ k : Fin 1024, a (Idealize.ShloMosaic.ix2 (z 0) k) * w (Idealize.ShloMosaic.ix3 0 k (z 1)) : EReal) := by
  pointwise [k0_pay2, k0_pay1, sqf]

theorem pay3_apply (a : Vec Ideal S512x1024 .bf16) (w : Vec Ideal S1x1024x1024 .bf16) (z : S512x1024.Idx) :
    k0_pay3 a w z = ruf (∑ k : Fin 1024, a (Idealize.ShloMosaic.ix2 (z 0) k) * w (Idealize.ShloMosaic.ix3 0 k (z 1)) : EReal) := by
  pointwise [k0_pay3, k0_pay1, ruf]

theorem pay5_apply (a : Vec Ideal S512x1024 .bf16) (w : Vec Ideal S1x1024x1024 .bf16) (z : S512x1024.Idx) :
    k0_pay5 a w z = sqf (∑ k : Fin 1024, a (Idealize.ShloMosaic.ix2 (z 0) k) * w (Idealize.ShloMosaic.ix3 0 k (z 1)) : EReal) := by
  pointwise [k0_pay5, k0_pay4, sqf]

theorem pay6_apply (a : Vec Ideal S512x1024 .bf16) (w : Vec Ideal S1x1024x1024 .bf16) (z : S512x1024.Idx) :
    k0_pay6 a w z = ruf (∑ k : Fin 1024, a (Idealize.ShloMosaic.ix2 (z 0) k) * w (Idealize.ShloMosaic.ix3 0 k (z 1)) : EReal) := by
  pointwise [k0_pay6, k0_pay4, ruf]

theorem off0 (j : grid0.Coords) : k0_off1 j 0#32 = ![1024 * (j 1).val, 0] := by
  revert j; decide +kernel

theorem off512 (j : grid0.Coords) : k0_off1 j 512#32 = ![1024 * (j 1).val + 512, 0] := by
  revert j; decide +kernel

variable (c : Dev nD) (j : grid0.Coords) (arg2 : Memref sig .tc .vmem S4096x1024 .bf16) (harg2 : arg2.IsWhole) (arg3 : Memref sig .tc .vmem S1x1024x1024 .bf16) (harg3 : arg3.IsWhole) (arg4 : Memref sig .tc .vmem S1024x1024 .bf16) (harg4 : arg4.IsWhole) (arg5 : Memref sig .tc .vmem S1024x1024 .bf16) (harg5 : arg5.IsWhole)

theorem rows (x0 : Vec Ideal S4096x1024 .bf16) (s : ℕ) (off : Fin 2 → ℕ) (h : off = ![s, 0]) (inb) (z : Fin 512) (k : Fin 1024) (hs : s + z.val < 4096) :
    View.readAt (Elt Ideal) arg2.view (Rect.unit (s := S4096x1024) off S512x1024.size inb).toLoadRect (harg2.unread x0) (Idealize.ShloMosaic.ix2 z k) = x0 (Idealize.ShloMosaic.ix2 ⟨s + z.val, hs⟩ k) := by
  subst h
  rw [Memref.IsWhole.readAt_unread]
  refine congrArg x0 (funext fun d => Fin.ext ?_)
  match d with
  | ⟨0, _⟩ => exact (ValueKit.rect_emb_unit_val _ _ _ _ _ : ((Rect.unit (s := S4096x1024) ![s, 0] S512x1024.size inb).emb (Idealize.ShloMosaic.ix2 z k) 0).val = s + z.val)
  | ⟨1, _⟩ => exact ((ValueKit.rect_emb_unit_val _ _ _ _ _).trans (Nat.zero_add _) : ((Rect.unit (s := S4096x1024) ![s, 0] S512x1024.size inb).emb (Idealize.ShloMosaic.ix2 z k) 1).val = k.val)

theorem wts (x1 : Vec Ideal S1x1024x1024 .bf16) (k : Fin 1024) (r : Fin 1024) :
    View.readAt (Elt Ideal) arg3.view (Rect.unit (s := S1x1024x1024) ![0, 0, 0] S1x1024x1024.size inb_S1x1024x1024_S1x1024x1024_0_0_0).toLoadRect (harg3.unread x1) (Idealize.ShloMosaic.ix3 0 k r) = x1 (Idealize.ShloMosaic.ix3 0 k r) := by
  rw [Memref.IsWhole.readAt_unread]
  refine congrArg x1 (funext fun d => Fin.ext ?_)
  match d with
  | ⟨0, _⟩ => exact ((ValueKit.rect_emb_unit_val _ _ _ _ _).trans (Nat.zero_add _) : ((Rect.unit (s := S1x1024x1024) ![0, 0, 0] S1x1024x1024.size inb_S1x1024x1024_S1x1024x1024_0_0_0).emb (Idealize.ShloMosaic.ix3 0 k r) 0).val = 0)
  | ⟨1, _⟩ => exact ((ValueKit.rect_emb_unit_val _ _ _ _ _).trans (Nat.zero_add _) : ((Rect.unit (s := S1x1024x1024) ![0, 0, 0] S1x1024x1024.size inb_S1x1024x1024_S1x1024x1024_0_0_0).emb (Idealize.ShloMosaic.ix3 0 k r) 1).val = k.val)
  | ⟨2, _⟩ => exact ((ValueKit.rect_emb_unit_val _ _ _ _ _).trans (Nat.zero_add _) : ((Rect.unit (s := S1x1024x1024) ![0, 0, 0] S1x1024x1024.size inb_S1x1024x1024_S1x1024x1024_0_0_0).emb (Idealize.ShloMosaic.ix3 0 k r) 2).val = r.val)

theorem out2_apply (x0 : Vec Ideal S4096x1024 .bf16) (x1 : Vec Ideal S1x1024x1024 .bf16) (y : S1024x1024.Idx) :
    out0_A_2 c j arg2 harg2 arg3 harg3 arg4 harg4 arg5 harg5 x0 x1 y = blockG sqf j x0 x1 y := by
  unfold out0_A_2
  rw [View.read_writes_eq_canon _ _ _ (cover0_A_2 c j arg2 harg2 arg3 harg3 arg4 harg4 arg5 harg5 x0 x1)]
  refine View.canon_apply_of_pieces (Val := Elt Ideal) (e := .bf16) (blockG sqf j x0 x1) _ ?_ y (cover0_A_2 c j arg2 harg2 arg3 harg3 arg4 harg4 arg5 harg5 x0 x1 y)
  have hp : (kernelRun0_A c j arg2 harg2 arg3 harg3 arg4 harg4 arg5 harg5 x0 x1).1 =
    [⟨Rect.unit (s := S1024x1024) ![512, 0] S512x1024.size inb_S1024x1024_S512x1024_512_0, k0_pay5 (View.readAt (Elt Ideal) arg2.view (Rect.unit (s := S4096x1024) (k0_off1 j 512#32) S512x1024.size (k0_off1_inb j 1)).toLoadRect (harg2.unread x0)) (View.readAt (Elt Ideal) arg3.view (Rect.unit (s := S1x1024x1024) ![0, 0, 0] S1x1024x1024.size inb_S1x1024x1024_S1x1024x1024_0_0_0).toLoadRect (harg3.unread x1))⟩,
     ⟨Rect.unit (s := S1024x1024) ![0, 0] S512x1024.size inb_S1024x1024_S512x1024_0_0, k0_pay2 (View.readAt (Elt Ideal) arg2.view (Rect.unit (s := S4096x1024) (k0_off1 j 0#32) S512x1024.size (k0_off1_inb j 0)).toLoadRect (harg2.unread x0)) (View.readAt (Elt Ideal) arg3.view (Rect.unit (s := S1x1024x1024) ![0, 0, 0] S1x1024x1024.size inb_S1x1024x1024_S1x1024x1024_0_0_0).toLoadRect (harg3.unread x1))⟩] := rfl
  rw [hp]
  intro pc hpc
  rcases List.mem_cons.mp hpc with rfl | hpc
  · intro z
    have hj : (j 1).val < 4 := (j 1).isLt
    have hz : (z 0).val < 512 := (z 0).isLt
    have e0 : ((Rect.unit (s := S1024x1024) ![512, 0] S512x1024.size inb_S1024x1024_S512x1024_512_0).emb z 0).val = 512 + (z 0).val := ValueKit.rect_emb_unit_val _ _ _ z _
    have e1 : ((Rect.unit (s := S1024x1024) ![512, 0] S512x1024.size inb_S1024x1024_S512x1024_512_0).emb z 1).val = (z 1).val := (ValueKit.rect_emb_unit_val _ _ _ z _).trans (Nat.zero_add _)
    refine (pay5_apply _ _ z).trans (congrArg sqf (sum_dotG _ _ x0 x1 _ _ (fun k => (rows arg2 harg2 x0 _ _ (off512 j) _ (z 0) k (by omega)).trans ?_) (fun k => (wts arg3 harg3 x1 k (z 1)).trans ?_)))
    · exact congrArg (fun n => x0 (Idealize.ShloMosaic.ix2 n k)) (Fin.ext (by show 1024 * (j 1).val + 512 + (z 0).val = 1024 * (j 1).val + _; rw [e0]; omega))
    · exact congrArg (fun n => x1 (Idealize.ShloMosaic.ix3 0 k n)) (Fin.ext e1.symm)
  rcases List.mem_singleton.mp hpc with rfl
  · intro z
    have hj : (j 1).val < 4 := (j 1).isLt
    have hz : (z 0).val < 512 := (z 0).isLt
    have e0 : ((Rect.unit (s := S1024x1024) ![0, 0] S512x1024.size inb_S1024x1024_S512x1024_0_0).emb z 0).val = (z 0).val := (ValueKit.rect_emb_unit_val _ _ _ z _).trans (Nat.zero_add _)
    have e1 : ((Rect.unit (s := S1024x1024) ![0, 0] S512x1024.size inb_S1024x1024_S512x1024_0_0).emb z 1).val = (z 1).val := (ValueKit.rect_emb_unit_val _ _ _ z _).trans (Nat.zero_add _)
    refine (pay2_apply _ _ z).trans (congrArg sqf (sum_dotG _ _ x0 x1 _ _ (fun k => (rows arg2 harg2 x0 _ _ (off0 j) _ (z 0) k (by omega)).trans ?_) (fun k => (wts arg3 harg3 x1 k (z 1)).trans ?_)))
    · exact congrArg (fun n => x0 (Idealize.ShloMosaic.ix2 n k)) (Fin.ext (by show 1024 * (j 1).val + (z 0).val = 1024 * (j 1).val + _; rw [e0]))
    · exact congrArg (fun n => x1 (Idealize.ShloMosaic.ix3 0 k n)) (Fin.ext e1.symm)

theorem out3_apply (x0 : Vec Ideal S4096x1024 .bf16) (x1 : Vec Ideal S1x1024x1024 .bf16) (y : S1024x1024.Idx) :
    out0_A_3 c j arg2 harg2 arg3 harg3 arg4 harg4 arg5 harg5 x0 x1 y = blockG ruf j x0 x1 y := by
  unfold out0_A_3
  rw [View.read_writes_eq_canon _ _ _ (cover0_A_3 c j arg2 harg2 arg3 harg3 arg4 harg4 arg5 harg5 x0 x1)]
  refine View.canon_apply_of_pieces (Val := Elt Ideal) (e := .bf16) (blockG ruf j x0 x1) _ ?_ y (cover0_A_3 c j arg2 harg2 arg3 harg3 arg4 harg4 arg5 harg5 x0 x1 y)
  have hp : (kernelRun0_A c j arg2 harg2 arg3 harg3 arg4 harg4 arg5 harg5 x0 x1).2.1 =
    [⟨Rect.unit (s := S1024x1024) ![512, 0] S512x1024.size inb_S1024x1024_S512x1024_512_0, k0_pay6 (View.readAt (Elt Ideal) arg2.view (Rect.unit (s := S4096x1024) (k0_off1 j 512#32) S512x1024.size (k0_off1_inb j 1)).toLoadRect (harg2.unread x0)) (View.readAt (Elt Ideal) arg3.view (Rect.unit (s := S1x1024x1024) ![0, 0, 0] S1x1024x1024.size inb_S1x1024x1024_S1x1024x1024_0_0_0).toLoadRect (harg3.unread x1))⟩,
     ⟨Rect.unit (s := S1024x1024) ![0, 0] S512x1024.size inb_S1024x1024_S512x1024_0_0, k0_pay3 (View.readAt (Elt Ideal) arg2.view (Rect.unit (s := S4096x1024) (k0_off1 j 0#32) S512x1024.size (k0_off1_inb j 0)).toLoadRect (harg2.unread x0)) (View.readAt (Elt Ideal) arg3.view (Rect.unit (s := S1x1024x1024) ![0, 0, 0] S1x1024x1024.size inb_S1x1024x1024_S1x1024x1024_0_0_0).toLoadRect (harg3.unread x1))⟩] := rfl
  rw [hp]
  intro pc hpc
  rcases List.mem_cons.mp hpc with rfl | hpc
  · intro z
    have hj : (j 1).val < 4 := (j 1).isLt
    have hz : (z 0).val < 512 := (z 0).isLt
    have e0 : ((Rect.unit (s := S1024x1024) ![512, 0] S512x1024.size inb_S1024x1024_S512x1024_512_0).emb z 0).val = 512 + (z 0).val := ValueKit.rect_emb_unit_val _ _ _ z _
    have e1 : ((Rect.unit (s := S1024x1024) ![512, 0] S512x1024.size inb_S1024x1024_S512x1024_512_0).emb z 1).val = (z 1).val := (ValueKit.rect_emb_unit_val _ _ _ z _).trans (Nat.zero_add _)
    refine (pay6_apply _ _ z).trans (congrArg ruf (sum_dotG _ _ x0 x1 _ _ (fun k => (rows arg2 harg2 x0 _ _ (off512 j) _ (z 0) k (by omega)).trans ?_) (fun k => (wts arg3 harg3 x1 k (z 1)).trans ?_)))
    · exact congrArg (fun n => x0 (Idealize.ShloMosaic.ix2 n k)) (Fin.ext (by show 1024 * (j 1).val + 512 + (z 0).val = 1024 * (j 1).val + _; rw [e0]; omega))
    · exact congrArg (fun n => x1 (Idealize.ShloMosaic.ix3 0 k n)) (Fin.ext e1.symm)
  rcases List.mem_singleton.mp hpc with rfl
  · intro z
    have hj : (j 1).val < 4 := (j 1).isLt
    have hz : (z 0).val < 512 := (z 0).isLt
    have e0 : ((Rect.unit (s := S1024x1024) ![0, 0] S512x1024.size inb_S1024x1024_S512x1024_0_0).emb z 0).val = (z 0).val := (ValueKit.rect_emb_unit_val _ _ _ z _).trans (Nat.zero_add _)
    have e1 : ((Rect.unit (s := S1024x1024) ![0, 0] S512x1024.size inb_S1024x1024_S512x1024_0_0).emb z 1).val = (z 1).val := (ValueKit.rect_emb_unit_val _ _ _ z _).trans (Nat.zero_add _)
    refine (pay3_apply _ _ z).trans (congrArg ruf (sum_dotG _ _ x0 x1 _ _ (fun k => (rows arg2 harg2 x0 _ _ (off0 j) _ (z 0) k (by omega)).trans ?_) (fun k => (wts arg3 harg3 x1 k (z 1)).trans ?_)))
    · exact congrArg (fun n => x0 (Idealize.ShloMosaic.ix2 n k)) (Fin.ext (by show 1024 * (j 1).val + (z 0).val = 1024 * (j 1).val + _; rw [e0]))
    · exact congrArg (fun n => x1 (Idealize.ShloMosaic.ix3 0 k n)) (Fin.ext e1.symm)

theorem idx : ∀ t : Fin cfg0.grid.N, win0_0.index t = ![0, 0] ∧ win0_1.index t = ![t.val / 4, 0, 0] ∧ win0_2.index t = ![t.val % 4, t.val / 4] ∧ win0_3.index t = ![t.val % 4, t.val / 4] := by
  decide +kernel

theorem crd : ∀ t : Fin cfg0.grid.N, (grid0.coords t 1).val = t.val % 4 := by
  decide +kernel

theorem dotG_eq (x0 a : Vec Ideal S4096x1024 .bf16) (x1 : Vec Ideal S1x1024x1024 .bf16) (b : Vec Ideal S4x1024x1024 .bf16) (r : Fin 4096) (s : Fin 1024) (i : S4096x4096.Idx)
    (h0 : ∀ k : Fin 1024, x0 (Idealize.ShloMosaic.ix2 r k) = a (Idealize.ShloMosaic.ix2 (i 0) k))
    (h1 : ∀ k : Fin 1024, x1 (Idealize.ShloMosaic.ix3 0 k s) = b (Idealize.ShloMosaic.ix3 ⟨(i 1).val / 1024, by have h : (i 1).val < 4096 := (i 1).isLt; omega⟩ k ⟨(i 1).val % 1024, by omega⟩)) : dotG x0 x1 r s = prod a b i :=
  Finset.sum_congr rfl fun k _ => by rw [h0 k, h1 k]

theorem final2 (m : (ℓ : Loc nD τ sig) → Buf (Elt Ideal) ℓ) (c : Dev nD) :
    (dats m 0 c).arrAt 2 cfg0.N = fun i => sqf (prod (m ((c : Thread nD τ).loc main_arg0)) (m ((c : Thread nD τ).loc main_arg1)) i) := by
  refine (dats m 0 c).arrAt_eq_of_covers 2 _ (by decide +kernel) fun t hf y => ?_
  obtain ⟨e0, e1, e2, -⟩ := idx t
  have ec := crd t
  blk_simp
  rw [after0_2]
  unfold outsAt0
  dsimp only
  rw [out2_apply]
  refine congrArg sqf (dotG_eq _ _ _ _ _ _ _ (fun k => ?_) (fun k => ?_))
  · blk_point [iblk, V, e0, e2, ec]
  · blk_point [iblk, V, e1, e2, ec]

theorem final3 (m : (ℓ : Loc nD τ sig) → Buf (Elt Ideal) ℓ) (c : Dev nD) :
    (dats m 0 c).arrAt 3 cfg0.N = fun i => ruf (prod (m ((c : Thread nD τ).loc main_arg0)) (m ((c : Thread nD τ).loc main_arg1)) i) := by
  refine (dats m 0 c).arrAt_eq_of_covers 3 _ (by decide +kernel) fun t hf y => ?_
  obtain ⟨e0, e1, -, e2⟩ := idx t
  have ec := crd t
  blk_simp
  rw [after0_3]
  unfold outsAt0
  dsimp only
  rw [out3_apply]
  refine congrArg ruf (dotG_eq _ _ _ _ _ _ _ (fun k => ?_) (fun k => ?_))
  · blk_point [iblk, V, e0, e2, ec]
  · blk_point [iblk, V, e1, e2, ec]

theorem refv (a : Vec Ideal S4096x1024 .bf16) (b : Vec Ideal S4x1024x1024 .bf16) (i : S4096x4096.Idx) : Cert.Reference7Ideal.Read.val_main_v4 (F := Ideal) a b i = prod a b i := by
  rw [Cert.Reference7Ideal.Read.val_main_v4_apply]
  refine Finset.sum_congr rfl fun k _ => ?_
  rw [Cert.Reference7Ideal.Read.val_main_v3_apply, Cert.Reference7Ideal.Read.val_main_v2_apply]
  have h0 : (i 0).val < 4096 := (i 0).isLt
  have h1 : (i 1).val < 4096 := (i 1).isLt
  congr 1
  · refine congrArg a (funext fun d => Fin.ext ?_)
    match d with
    | ⟨0, _⟩ => rfl
    | ⟨1, _⟩ => rfl
  · refine congrArg b (funext fun d => Fin.ext ?_)
    match d with
    | ⟨0, _⟩ => show (k.val * 4096 + (i 1).val) / 1024 % 4 = (i 1).val / 1024; omega
    | ⟨1, _⟩ => show (k.val * 4096 + (i 1).val) / 4096 = k.val; omega
    | ⟨2, _⟩ => show (k.val * 4096 + (i 1).val) % 1024 = (i 1).val % 1024; omega

theorem refr (a : Vec Ideal S4096x1024 .bf16) (b : Vec Ideal S4x1024x1024 .bf16) (i : S4096x4096.Idx) : Cert.Reference7Ideal.Read.val_main_v8 (F := Ideal) a b i = ruf (prod a b i) := by
  show max (Cert.Reference7Ideal.Read.val_main_v4 (F := Ideal) a b i) (Ideal.ofBits .f32 0x00000000#32) = _
  rw [refv, Ideal.ofBits_zero_f32]
  rfl

theorem refs (a : Vec Ideal S4096x1024 .bf16) (b : Vec Ideal S4x1024x1024 .bf16) (i : S4096x4096.Idx) : Cert.Reference7Ideal.Read.val_main_v7 (F := Ideal) a b i = sqf (prod a b i) := by
  show Cert.Reference7Ideal.Read.val_main_v8 (F := Ideal) a b i * Cert.Reference7Ideal.Read.val_main_v8 (F := Ideal) a b i = _
  rw [refr]
  rfl

theorem algebraic : Cert.algebraic_Kernel7Ideal_Reference7Ideal := by
  intro m g m' g' _ hm
  refine ⟨fun c i => sqf (prod (m ((c : Thread nD τ).loc main_arg0)) (m ((c : Thread nD τ).loc main_arg1)) i),
    fun c i => ruf (prod (m ((c : Thread nD τ).loc main_arg0)) (m ((c : Thread nD τ).loc main_arg1)) i), ?_, ?_⟩
  · exact (θ_run _ _ _).mono (fun r h c => ⟨(h c).1.trans (final2 m c), (h c).2.1.trans (final3 m c), (h c).2.2⟩) (Cert.Kernel7Ideal.Value.run_blocks (F := Ideal) m g)
  · refine (θ_run _ _ _).mono (fun r h c => ?_) (Cert.Reference7Ideal.Value.run (F := Ideal) m' g')
    have e : (fun i => Cert.Reference7Ideal.Read.val_main_v7 (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) i) = fun i => sqf (prod (m ((c : Thread nD τ).loc main_arg0)) (m ((c : Thread nD τ).loc main_arg1)) i) := by
      funext i
      rw [refs, (hm c).1, (hm c).2]
    have e' : (fun i => Cert.Reference7Ideal.Read.val_main_v8 (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) i) = fun i => ruf (prod (m ((c : Thread nD τ).loc main_arg0)) (m ((c : Thread nD τ).loc main_arg1)) i) := by
      funext i
      rw [refr, (hm c).1, (hm c).2]
    exact ⟨(h c).1.trans ((Cert.Reference7Ideal.Read.val_main_v7_eq _ _).trans e), (h c).2.1.trans ((Cert.Reference7Ideal.Read.val_main_v8_eq _ _).trans e'), (h c).2.2⟩

end Mm7
-- ==== Proof.Mm8.lean ====
/- The input projection: what its call writes is what the reference computes. -/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.WholeRead
public import Idealize.ShloMosaic.Lib.Pipeline.ValueKit

@[expose] public section

noncomputable section

namespace Mm8

open Idealize.ShloMosaic Idealize.ShloMosaic.TcCoe Idealize.SL.Sem Cert.Kernel8Ideal Cert.Kernel8Ideal.Gen

/-- The projection at a place: a row of the activations against a column of the weight. -/
def prod (a : Vec Ideal S4096x1024 .bf16) (b : Vec Ideal S4x1024x896 .bf16) (i : S4096x3584.Idx) : EReal :=
  ∑ k : Fin 1024, a (Idealize.ShloMosaic.ix2 (i 0) k) * b (Idealize.ShloMosaic.ix3 ⟨(i 1).val / 896, by have h : (i 1).val < 3584 := (i 1).isLt; omega⟩ k ⟨(i 1).val % 896, by omega⟩)

/-- Row `r` of the activations against column `s` of one block of the weight. -/
def dotG (x0 : Vec Ideal S4096x1024 .bf16) (x1 : Vec Ideal S1x1024x896 .bf16) (r : Fin 4096) (s : Fin 896) : EReal :=
  ∑ k : Fin 1024, x0 (Idealize.ShloMosaic.ix2 r k) * x1 (Idealize.ShloMosaic.ix3 0 k s)

theorem sum_dotG (A B : Fin 1024 → EReal) (x0 : Vec Ideal S4096x1024 .bf16) (x1 : Vec Ideal S1x1024x896 .bf16) (r : Fin 4096) (s : Fin 896)
    (h0 : ∀ k : Fin 1024, A k = x0 (Idealize.ShloMosaic.ix2 r k)) (h1 : ∀ k : Fin 1024, B k = x1 (Idealize.ShloMosaic.ix3 0 k s)) : ∑ k : Fin 1024, A k * B k = dotG x0 x1 r s :=
  Finset.sum_congr rfl fun k _ => by rw [h0 k, h1 k]

theorem row_lt (j : grid0.Coords) (y : S1024x896.Idx) : 1024 * (j 1).val + (y 0).val < 4096 := by
  have h1 : (j 1).val < 4 := (j 1).isLt
  have h2 : (y 0).val < 1024 := (y 0).isLt
  omega

/-- The block of the projection written at one point of the grid. -/
def blockG (j : grid0.Coords) (x0 : Vec Ideal S4096x1024 .bf16) (x1 : Vec Ideal S1x1024x896 .bf16) (y : S1024x896.Idx) : Elt Ideal .f32 :=
  dotG x0 x1 ⟨1024 * (j 1).val + (y 0).val, row_lt j y⟩ (y 1)

theorem pay1_apply (a : Vec Ideal S512x1024 .bf16) (w : Vec Ideal S1x1024x896 .bf16) (z : S512x896.Idx) :
    k0_pay1 a w z = (∑ k : Fin 1024, a (Idealize.ShloMosaic.ix2 (z 0) k) * w (Idealize.ShloMosaic.ix3 0 k (z 1)) : EReal) := by
  pointwise [k0_pay1]

theorem pay2_apply (a : Vec Ideal S512x1024 .bf16) (w : Vec Ideal S1x1024x896 .bf16) (z : S512x896.Idx) :
    k0_pay2 a w z = (∑ k : Fin 1024, a (Idealize.ShloMosaic.ix2 (z 0) k) * w (Idealize.ShloMosaic.ix3 0 k (z 1)) : EReal) := by
  pointwise [k0_pay2]

theorem off0 (j : grid0.Coords) : k0_off1 j 0#32 = ![1024 * (j 1).val, 0] := by
  revert j; decide +kernel

theorem off512 (j : grid0.Coords) : k0_off1 j 512#32 = ![1024 * (j 1).val + 512, 0] := by
  revert j; decide +kernel

variable (c : Dev nD) (j : grid0.Coords) (arg2 : Memref sig .tc .vmem S4096x1024 .bf16) (harg2 : arg2.IsWhole) (arg3 : Memref sig .tc .vmem S1x1024x896 .bf16) (harg3 : arg3.IsWhole) (arg4 : Memref sig .tc .vmem S1024x896 .f32) (harg4 : arg4.IsWhole)

theorem rows (x0 : Vec Ideal S4096x1024 .bf16) (s : ℕ) (off : Fin 2 → ℕ) (h : off = ![s, 0]) (inb) (z : Fin 512) (k : Fin 1024) (hs : s + z.val < 4096) :
    View.readAt (Elt Ideal) arg2.view (Rect.unit (s := S4096x1024) off S512x1024.size inb).toLoadRect (harg2.unread x0) (Idealize.ShloMosaic.ix2 z k) = x0 (Idealize.ShloMosaic.ix2 ⟨s + z.val, hs⟩ k) := by
  subst h
  rw [Memref.IsWhole.readAt_unread]
  refine congrArg x0 (funext fun d => Fin.ext ?_)
  match d with
  | ⟨0, _⟩ => exact (ValueKit.rect_emb_unit_val _ _ _ _ _ : ((Rect.unit (s := S4096x1024) ![s, 0] S512x1024.size inb).emb (Idealize.ShloMosaic.ix2 z k) 0).val = s + z.val)
  | ⟨1, _⟩ => exact ((ValueKit.rect_emb_unit_val _ _ _ _ _).trans (Nat.zero_add _) : ((Rect.unit (s := S4096x1024) ![s, 0] S512x1024.size inb).emb (Idealize.ShloMosaic.ix2 z k) 1).val = k.val)

theorem wts (x1 : Vec Ideal S1x1024x896 .bf16) (k : Fin 1024) (r : Fin 896) :
    View.readAt (Elt Ideal) arg3.view (Rect.unit (s := S1x1024x896) ![0, 0, 0] S1x1024x896.size inb_S1x1024x896_S1x1024x896_0_0_0).toLoadRect (harg3.unread x1) (Idealize.ShloMosaic.ix3 0 k r) = x1 (Idealize.ShloMosaic.ix3 0 k r) := by
  rw [Memref.IsWhole.readAt_unread]
  refine congrArg x1 (funext fun d => Fin.ext ?_)
  match d with
  | ⟨0, _⟩ => exact ((ValueKit.rect_emb_unit_val _ _ _ _ _).trans (Nat.zero_add _) : ((Rect.unit (s := S1x1024x896) ![0, 0, 0] S1x1024x896.size inb_S1x1024x896_S1x1024x896_0_0_0).emb (Idealize.ShloMosaic.ix3 0 k r) 0).val = 0)
  | ⟨1, _⟩ => exact ((ValueKit.rect_emb_unit_val _ _ _ _ _).trans (Nat.zero_add _) : ((Rect.unit (s := S1x1024x896) ![0, 0, 0] S1x1024x896.size inb_S1x1024x896_S1x1024x896_0_0_0).emb (Idealize.ShloMosaic.ix3 0 k r) 1).val = k.val)
  | ⟨2, _⟩ => exact ((ValueKit.rect_emb_unit_val _ _ _ _ _).trans (Nat.zero_add _) : ((Rect.unit (s := S1x1024x896) ![0, 0, 0] S1x1024x896.size inb_S1x1024x896_S1x1024x896_0_0_0).emb (Idealize.ShloMosaic.ix3 0 k r) 2).val = r.val)

theorem out_apply (x0 : Vec Ideal S4096x1024 .bf16) (x1 : Vec Ideal S1x1024x896 .bf16) (y : S1024x896.Idx) :
    out0_A_2 c j arg2 harg2 arg3 harg3 arg4 harg4 x0 x1 y = blockG j x0 x1 y := by
  unfold out0_A_2
  rw [View.read_writes_eq_canon _ _ _ (cover0_A_2 c j arg2 harg2 arg3 harg3 arg4 harg4 x0 x1)]
  refine View.canon_apply_of_pieces (Val := Elt Ideal) (e := .f32) (blockG j x0 x1) _ ?_ y (cover0_A_2 c j arg2 harg2 arg3 harg3 arg4 harg4 x0 x1 y)
  have hp : (kernelRun0_A c j arg2 harg2 arg3 harg3 arg4 harg4 x0 x1).1 =
    [⟨Rect.unit (s := S1024x896) ![512, 0] S512x896.size inb_S1024x896_S512x896_512_0, k0_pay2 (View.readAt (Elt Ideal) arg2.view (Rect.unit (s := S4096x1024) (k0_off1 j 512#32) S512x1024.size (k0_off1_inb j 1)).toLoadRect (harg2.unread x0)) (View.readAt (Elt Ideal) arg3.view (Rect.unit (s := S1x1024x896) ![0, 0, 0] S1x1024x896.size inb_S1x1024x896_S1x1024x896_0_0_0).toLoadRect (harg3.unread x1))⟩,
     ⟨Rect.unit (s := S1024x896) ![0, 0] S512x896.size inb_S1024x896_S512x896_0_0, k0_pay1 (View.readAt (Elt Ideal) arg2.view (Rect.unit (s := S4096x1024) (k0_off1 j 0#32) S512x1024.size (k0_off1_inb j 0)).toLoadRect (harg2.unread x0)) (View.readAt (Elt Ideal) arg3.view (Rect.unit (s := S1x1024x896) ![0, 0, 0] S1x1024x896.size inb_S1x1024x896_S1x1024x896_0_0_0).toLoadRect (harg3.unread x1))⟩] := rfl
  rw [hp]
  intro pc hpc
  rcases List.mem_cons.mp hpc with rfl | hpc
  · intro z
    have hj : (j 1).val < 4 := (j 1).isLt
    have hz : (z 0).val < 512 := (z 0).isLt
    have e0 : ((Rect.unit (s := S1024x896) ![512, 0] S512x896.size inb_S1024x896_S512x896_512_0).emb z 0).val = 512 + (z 0).val := ValueKit.rect_emb_unit_val _ _ _ z _
    have e1 : ((Rect.unit (s := S1024x896) ![512, 0] S512x896.size inb_S1024x896_S512x896_512_0).emb z 1).val = (z 1).val := (ValueKit.rect_emb_unit_val _ _ _ z _).trans (Nat.zero_add _)
    refine (pay2_apply _ _ z).trans (sum_dotG _ _ x0 x1 _ _ (fun k => (rows arg2 harg2 x0 _ _ (off512 j) _ (z 0) k (by omega)).trans ?_) (fun k => (wts arg3 harg3 x1 k (z 1)).trans ?_))
    · exact congrArg (fun n => x0 (Idealize.ShloMosaic.ix2 n k)) (Fin.ext (by show 1024 * (j 1).val + 512 + (z 0).val = 1024 * (j 1).val + _; rw [e0]; omega))
    · exact congrArg (fun n => x1 (Idealize.ShloMosaic.ix3 0 k n)) (Fin.ext e1.symm)
  rcases List.mem_singleton.mp hpc with rfl
  · intro z
    have hj : (j 1).val < 4 := (j 1).isLt
    have hz : (z 0).val < 512 := (z 0).isLt
    have e0 : ((Rect.unit (s := S1024x896) ![0, 0] S512x896.size inb_S1024x896_S512x896_0_0).emb z 0).val = (z 0).val := (ValueKit.rect_emb_unit_val _ _ _ z _).trans (Nat.zero_add _)
    have e1 : ((Rect.unit (s := S1024x896) ![0, 0] S512x896.size inb_S1024x896_S512x896_0_0).emb z 1).val = (z 1).val := (ValueKit.rect_emb_unit_val _ _ _ z _).trans (Nat.zero_add _)
    refine (pay1_apply _ _ z).trans (sum_dotG _ _ x0 x1 _ _ (fun k => (rows arg2 harg2 x0 _ _ (off0 j) _ (z 0) k (by omega)).trans ?_) (fun k => (wts arg3 harg3 x1 k (z 1)).trans ?_))
    · exact congrArg (fun n => x0 (Idealize.ShloMosaic.ix2 n k)) (Fin.ext (by show 1024 * (j 1).val + (z 0).val = 1024 * (j 1).val + _; rw [e0]))
    · exact congrArg (fun n => x1 (Idealize.ShloMosaic.ix3 0 k n)) (Fin.ext e1.symm)

theorem idx : ∀ t : Fin cfg0.grid.N, win0_0.index t = ![0, 0] ∧ win0_1.index t = ![t.val / 4, 0, 0] ∧ win0_2.index t = ![t.val % 4, t.val / 4] := by
  decide +kernel

theorem crd : ∀ t : Fin cfg0.grid.N, (grid0.coords t 1).val = t.val % 4 := by
  decide +kernel

theorem dotG_eq (x0 a : Vec Ideal S4096x1024 .bf16) (x1 : Vec Ideal S1x1024x896 .bf16) (b : Vec Ideal S4x1024x896 .bf16) (r : Fin 4096) (s : Fin 896) (i : S4096x3584.Idx)
    (h0 : ∀ k : Fin 1024, x0 (Idealize.ShloMosaic.ix2 r k) = a (Idealize.ShloMosaic.ix2 (i 0) k))
    (h1 : ∀ k : Fin 1024, x1 (Idealize.ShloMosaic.ix3 0 k s) = b (Idealize.ShloMosaic.ix3 ⟨(i 1).val / 896, by have h : (i 1).val < 3584 := (i 1).isLt; omega⟩ k ⟨(i 1).val % 896, by omega⟩)) : dotG x0 x1 r s = prod a b i :=
  Finset.sum_congr rfl fun k _ => by rw [h0 k, h1 k]

theorem final (m : (ℓ : Loc nD τ sig) → Buf (Elt Ideal) ℓ) (c : Dev nD) :
    (dats m 0 c).arrAt 2 cfg0.N = fun i => prod (m ((c : Thread nD τ).loc main_arg0)) (m ((c : Thread nD τ).loc main_arg1)) i := by
  refine (dats m 0 c).arrAt_eq_of_covers 2 _ (by decide +kernel) fun t hf y => ?_
  obtain ⟨e0, e1, e2⟩ := idx t
  have ec := crd t
  blk_simp
  rw [after0_2]
  unfold outsAt0
  rw [out_apply]
  refine dotG_eq _ _ _ _ _ _ _ (fun k => ?_) (fun k => ?_)
  · blk_point [iblk, V, e0, e2, ec]
  · blk_point [iblk, V, e1, e2, ec]

theorem refv (a : Vec Ideal S4096x1024 .bf16) (b : Vec Ideal S4x1024x896 .bf16) (i : S4096x3584.Idx) : Cert.Reference8Ideal.Read.val_main_v4 (F := Ideal) a b i = prod a b i := by
  rw [Cert.Reference8Ideal.Read.val_main_v4_apply]
  refine Finset.sum_congr rfl fun k _ => ?_
  rw [Cert.Reference8Ideal.Read.val_main_v3_apply, Cert.Reference8Ideal.Read.val_main_v2_apply]
  have h0 : (i 0).val < 4096 := (i 0).isLt
  have h1 : (i 1).val < 3584 := (i 1).isLt
  congr 1
  · refine congrArg a (funext fun d => Fin.ext ?_)
    match d with
    | ⟨0, _⟩ => rfl
    | ⟨1, _⟩ => rfl
  · refine congrArg b (funext fun d => Fin.ext ?_)
    match d with
    | ⟨0, _⟩ => show (k.val * 3584 + (i 1).val) / 896 % 4 = (i 1).val / 896; omega
    | ⟨1, _⟩ => show (k.val * 3584 + (i 1).val) / 3584 = k.val; omega
    | ⟨2, _⟩ => show (k.val * 3584 + (i 1).val) % 896 = (i 1).val % 896; omega

theorem algebraic : Cert.algebraic_Kernel8Ideal_Reference8Ideal := by
  intro m g m' g' _ hm
  refine ⟨fun c i => prod (m ((c : Thread nD τ).loc main_arg0)) (m ((c : Thread nD τ).loc main_arg1)) i, ?_, ?_⟩
  · exact (θ_run _ _ _).mono (fun r h c => ⟨(h c).1.trans (final m c), (h c).2⟩) (Cert.Kernel8Ideal.Value.run_blocks (F := Ideal) m g)
  · refine (θ_run _ _ _).mono (fun r h c => ?_) (Cert.Reference8Ideal.Value.run (F := Ideal) m' g')
    have e : (fun i => Cert.Reference8Ideal.Read.val_main_v4 (F := Ideal) (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) i) = fun i => prod (m ((c : Thread nD τ).loc main_arg0)) (m ((c : Thread nD τ).loc main_arg1)) i := by
      funext i
      rw [refv, (hm c).1, (hm c).2]
    exact ⟨(h c).1.trans e, (h c).2⟩

end Mm8
-- ==== Proof.Rows.lean ====
/- Rows of a product, and their norm: the functions that the two calls with a norm behind a product are read as. -/
module

public import proofs.«01_k».proof.Defs
public import Idealize.ShloMosaic.Lib.Pipeline.ValueKit

@[expose] public section

noncomputable section

namespace Rows

open Idealize.ShloMosaic

/-- A row times a matrix. -/
def prod {n : ℕ} (a : Fin n → EReal) (w : Fin n → Fin 1024 → EReal) (q : Fin 1024) : EReal := ∑ k : Fin n, a k * w k q

/-- The norm's factor of a row: one over the root of the mean of the squares and a small number. -/
def rs (v : Fin 1024 → EReal) : EReal :=
  Ideal.rsqrt (Ideal.div (∑ k : Fin 1024, v k * v k) (Ideal.ofBits .f32 0x44800000#32) + Ideal.ofBits .f32 0x358637BD#32)

/-- A row plus the norm of another. -/
def plus (x v g : Fin 1024 → EReal) (q : Fin 1024) : EReal := x q + v q * rs v * g q

/-- The norm of a row. -/
def norm (v g : Fin 1024 → EReal) (q : Fin 1024) : EReal := v q * rs v * g q

end Rows
-- ==== Proof.Mm9.lean ====
/- The output projection with the residual sum and the norm behind it: what its call writes is what the reference computes. -/
module

public import proofs.«01_k».proof.Proof.Rows
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit

@[expose] public section

noncomputable section

namespace Mm9

open Idealize.ShloMosaic Idealize.ShloMosaic.TcCoe Idealize.SL.Sem Cert.Kernel9Ideal Cert.Kernel9Ideal.Gen

/-- A row of a matrix, and the one row of a gain. -/
def row {n : ℕ} (a : (⟨2, ![n, 1024]⟩ : Shape).Idx → EReal) (r : Fin n) (k : Fin 1024) : EReal := a (Idealize.ShloMosaic.ix2 r k)
/-- A matrix by its two coordinates. -/
def mat (w : Vec Ideal S1024x1024 .bf16) (k q : Fin 1024) : EReal := w (Idealize.ShloMosaic.ix2 k q)
/-- The weight, whose rows lie on the chips, by its two coordinates. -/
def whole (w : Vec Ideal S4x256x1024 .bf16) (k q : Fin 1024) : EReal :=
  w (Idealize.ShloMosaic.ix3 ⟨k.val / 256, by omega⟩ ⟨k.val % 256, by omega⟩ q)

theorem pay2_apply (a : Vec Ideal S256x1024 .bf16) (w : Vec Ideal S1024x1024 .bf16) (z : S256x1024.Idx) :
    k0_pay2 a w z = Rows.prod (row (n := 256) a (z 0)) (mat w) (z 1) := by
  pointwise [k0_pay2, Rows.prod, row, mat]

theorem pay5_apply (a : Vec Ideal S256x1024 .bf16) (w : Vec Ideal S1024x1024 .bf16) (z : S256x1024.Idx) :
    k0_pay5 a w z = Rows.prod (row (n := 256) a (z 0)) (mat w) (z 1) := by
  pointwise [k0_pay5, Rows.prod, row, mat]

theorem pay3_apply (x : Vec Ideal S256x1024 .f32) (g : Vec Ideal S1x1024 .f32) (a : Vec Ideal S256x1024 .bf16) (w : Vec Ideal S1024x1024 .bf16) (z : S256x1024.Idx) :
    k0_pay3 x g a w z = Rows.plus (row (n := 256) x (z 0)) (Rows.prod (row (n := 256) a (z 0)) (mat w)) (row (n := 1) g 0) (z 1) := by
  pointwise [k0_pay3]
  simp only [pay2_apply]
  have hz : x z = x (Idealize.ShloMosaic.ix2 (z 0) (z 1)) := congrArg x (funext fun d => by fin_cases d <;> rfl)
  rw [hz]
  rfl

theorem pay6_apply (x : Vec Ideal S256x1024 .f32) (g : Vec Ideal S1x1024 .f32) (a : Vec Ideal S256x1024 .bf16) (w : Vec Ideal S1024x1024 .bf16) (z : S256x1024.Idx) :
    k0_pay6 x g a w z = Rows.plus (row (n := 256) x (z 0)) (Rows.prod (row (n := 256) a (z 0)) (mat w)) (row (n := 1) g 0) (z 1) := by
  pointwise [k0_pay6]
  simp only [pay5_apply]
  have hz : x z = x (Idealize.ShloMosaic.ix2 (z 0) (z 1)) := congrArg x (funext fun d => by fin_cases d <;> rfl)
  rw [hz]
  rfl

theorem pay4_apply (x : Vec Ideal S256x1024 .f32) (g g' : Vec Ideal S1x1024 .f32) (a : Vec Ideal S256x1024 .bf16) (w : Vec Ideal S1024x1024 .bf16) (z : S256x1024.Idx) :
    k0_pay4 x g g' a w z = Rows.norm (Rows.plus (row (n := 256) x (z 0)) (Rows.prod (row (n := 256) a (z 0)) (mat w)) (row (n := 1) g 0)) (row (n := 1) g' 0) (z 1) := by
  pointwise [k0_pay4]
  simp only [pay3_apply]
  rfl

theorem pay7_apply (x : Vec Ideal S256x1024 .f32) (g g' : Vec Ideal S1x1024 .f32) (a : Vec Ideal S256x1024 .bf16) (w : Vec Ideal S1024x1024 .bf16) (z : S256x1024.Idx) :
    k0_pay1 (k0_pay7 x g g' a w) z = Rows.norm (Rows.plus (row (n := 256) x (z 0)) (Rows.prod (row (n := 256) a (z 0)) (mat w)) (row (n := 1) g 0)) (row (n := 1) g' 0) (z 1) := by
  pointwise [k0_pay1, k0_pay7]
  simp only [pay6_apply]
  rfl

theorem hz : (![0, 0] : Fin 2 → Nat) = fun _ => 0 := funext fun a => by fin_cases a <;> rfl

theorem ldg (x : Vec Ideal S1x1024 .f32) : View.ld (Val := Elt Ideal) x r0_1 = x := View.ld_unit_zero (S := S1x1024) hz _ _
theorem ldw (x : Vec Ideal S1024x1024 .bf16) : View.ld (Val := Elt Ideal) x r0_2 = x := View.ld_unit_zero (S := S1024x1024) hz _ _

theorem col0 (z : S256x1024.Idx) : r0_0.emb z 1 = z 1 := Fin.ext ((ValueKit.rect_emb_unit_val _ _ _ _ _).trans (Nat.zero_add _) : (r0_0.emb z 1).val = (z 1).val)
theorem col3 (z : S256x1024.Idx) : r0_3.emb z 1 = z 1 := Fin.ext ((ValueKit.rect_emb_unit_val _ _ _ _ _).trans (Nat.zero_add _) : (r0_3.emb z 1).val = (z 1).val)

theorem row0h (x : Vec Ideal S512x1024 .bf16) (z : S256x1024.Idx) : row (n := 256) (View.ld (Val := Elt Ideal) x r0_0) (z 0) = row (n := 512) x (r0_0.emb z 0) := by
  funext k
  refine congrArg x (funext fun d => Fin.ext ?_)
  match d with
  | ⟨0, _⟩ =>
    exact (ValueKit.rect_emb_unit_val _ _ _ _ _ : (r0_0.emb (Idealize.ShloMosaic.ix2 (z 0) k) 0).val = 0 + (z 0).val).trans (ValueKit.rect_emb_unit_val _ _ _ _ _ : (r0_0.emb z 0).val = 0 + (z 0).val).symm
  | ⟨1, _⟩ => exact ((ValueKit.rect_emb_unit_val _ _ _ _ _).trans (Nat.zero_add _) : (r0_0.emb (Idealize.ShloMosaic.ix2 (z 0) k) 1).val = k.val)

theorem row0 (x : Vec Ideal S512x1024 .f32) (z : S256x1024.Idx) : row (n := 256) (View.ld (Val := Elt Ideal) x r0_0) (z 0) = row (n := 512) x (r0_0.emb z 0) := by
  funext k
  refine congrArg x (funext fun d => Fin.ext ?_)
  match d with
  | ⟨0, _⟩ =>
    exact (ValueKit.rect_emb_unit_val _ _ _ _ _ : (r0_0.emb (Idealize.ShloMosaic.ix2 (z 0) k) 0).val = 0 + (z 0).val).trans (ValueKit.rect_emb_unit_val _ _ _ _ _ : (r0_0.emb z 0).val = 0 + (z 0).val).symm
  | ⟨1, _⟩ => exact ((ValueKit.rect_emb_unit_val _ _ _ _ _).trans (Nat.zero_add _) : (r0_0.emb (Idealize.ShloMosaic.ix2 (z 0) k) 1).val = k.val)

theorem row3h (x : Vec Ideal S512x1024 .bf16) (z : S256x1024.Idx) : row (n := 256) (View.ld (Val := Elt Ideal) x r0_3) (z 0) = row (n := 512) x (r0_3.emb z 0) := by
  funext k
  refine congrArg x (funext fun d => Fin.ext ?_)
  match d with
  | ⟨0, _⟩ =>
    exact (ValueKit.rect_emb_unit_val _ _ _ _ _ : (r0_3.emb (Idealize.ShloMosaic.ix2 (z 0) k) 0).val = 256 + (z 0).val).trans (ValueKit.rect_emb_unit_val _ _ _ _ _ : (r0_3.emb z 0).val = 256 + (z 0).val).symm
  | ⟨1, _⟩ => exact ((ValueKit.rect_emb_unit_val _ _ _ _ _).trans (Nat.zero_add _) : (r0_3.emb (Idealize.ShloMosaic.ix2 (z 0) k) 1).val = k.val)

theorem row3 (x : Vec Ideal S512x1024 .f32) (z : S256x1024.Idx) : row (n := 256) (View.ld (Val := Elt Ideal) x r0_3) (z 0) = row (n := 512) x (r0_3.emb z 0) := by
  funext k
  refine congrArg x (funext fun d => Fin.ext ?_)
  match d with
  | ⟨0, _⟩ =>
    exact (ValueKit.rect_emb_unit_val _ _ _ _ _ : (r0_3.emb (Idealize.ShloMosaic.ix2 (z 0) k) 0).val = 256 + (z 0).val).trans (ValueKit.rect_emb_unit_val _ _ _ _ _ : (r0_3.emb z 0).val = 256 + (z 0).val).symm
  | ⟨1, _⟩ => exact ((ValueKit.rect_emb_unit_val _ _ _ _ _).trans (Nat.zero_add _) : (r0_3.emb (Idealize.ShloMosaic.ix2 (z 0) k) 1).val = k.val)

variable (x0 : Vec Ideal S512x1024 .bf16) (x1 : Vec Ideal S1024x1024 .bf16) (x2 : Vec Ideal S512x1024 .f32) (x3 x4 : Vec Ideal S1x1024 .f32)

/-- One block of the product, of the residual sum, and of the norm. -/
def block5 (y : S512x1024.Idx) : EReal := Rows.prod (row (n := 512) x0 (y 0)) (mat x1) (y 1)
def block6 (y : S512x1024.Idx) : EReal := Rows.plus (row (n := 512) x2 (y 0)) (Rows.prod (row (n := 512) x0 (y 0)) (mat x1)) (row (n := 1) x3 0) (y 1)
def block7 (y : S512x1024.Idx) : EReal :=
  Rows.norm (Rows.plus (row (n := 512) x2 (y 0)) (Rows.prod (row (n := 512) x0 (y 0)) (mat x1)) (row (n := 1) x3 0)) (row (n := 1) x4 0) (y 1)

theorem out5_apply (y : S512x1024.Idx) : out0_5 x0 x1 x2 x3 x4 y = block5 x0 x1 y := by
  refine View.canon_apply_of_pieces (Val := Elt Ideal) (e := .f32) (block5 x0 x1) _ ?_ y (cover0_5 _ _ y)
  intro pc hpc
  rcases List.mem_cons.mp hpc with rfl | hpc
  · intro z
    refine (pay5_apply _ _ z).trans ?_
    rw [ldw, row3h x0, ← col3 z]
    rfl
  rcases List.mem_singleton.mp hpc with rfl
  · intro z
    refine (pay2_apply _ _ z).trans ?_
    rw [ldw, row0h x0, ← col0 z]
    rfl

theorem out6_apply (y : S512x1024.Idx) : out0_6 x0 x1 x2 x3 x4 y = block6 x0 x1 x2 x3 y := by
  refine View.canon_apply_of_pieces (Val := Elt Ideal) (e := .f32) (block6 x0 x1 x2 x3) _ ?_ y (cover0_6 _ _ y)
  intro pc hpc
  rcases List.mem_cons.mp hpc with rfl | hpc
  · intro z
    refine (pay6_apply _ _ _ _ z).trans ?_
    rw [ldw, ldg, row3h x0, row3 x2, ← col3 z]
    rfl
  rcases List.mem_singleton.mp hpc with rfl
  · intro z
    refine (pay3_apply _ _ _ _ z).trans ?_
    rw [ldw, ldg, row0h x0, row0 x2, ← col0 z]
    rfl

theorem out7_apply (y : S512x1024.Idx) : out0_7 x0 x1 x2 x3 x4 y = block7 x0 x1 x2 x3 x4 y := by
  refine View.canon_apply_of_pieces (Val := Elt Ideal) (e := .bf16) (block7 x0 x1 x2 x3 x4) _ ?_ y (cover0_7 _ _ y)
  intro pc hpc
  rcases List.mem_cons.mp hpc with rfl | hpc
  · intro z
    refine (pay7_apply _ _ _ _ _ z).trans ?_
    rw [ldw, ldg, ldg, row3h x0, row3 x2, ← col3 z]
    rfl
  rcases List.mem_singleton.mp hpc with rfl
  · intro z
    refine (pay4_apply _ _ _ _ _ z).trans ?_
    rw [ldw, ldg, ldg, row0h x0, row0 x2, ← col0 z]
    rfl

theorem idx : ∀ t : Fin cfg0.grid.N, win0_0.index t = ![t.val, 0] ∧ win0_1.index t = ![0, 0] ∧ win0_2.index t = ![t.val, 0] ∧ win0_3.index t = ![0, 0] ∧ win0_4.index t = ![0, 0]
    ∧ win0_5.index t = ![t.val, 0] ∧ win0_6.index t = ![t.val, 0] ∧ win0_7.index t = ![t.val, 0] := by
  decide +kernel

variable (m : (ℓ : Loc nD τ sig) → Buf (Elt Ideal) ℓ) (c : Dev nD)

theorem wv : V m c main_v0 = shapeCast S1024x1024 (m ((c : Thread nD τ).loc main_arg1)) shapeCasts_S4x256x1024_S1024x1024 := by
  entry_read; rfl

theorem wval (k q : Fin 1024) : (V m c main_v0 : Vec Ideal S1024x1024 .bf16) (Idealize.ShloMosaic.ix2 k q) = whole (m ((c : Thread nD τ).loc main_arg1)) k q := by
  rw [wv]
  refine shapeCast_apply _ shapeCasts_S4x256x1024_S1024x1024 _ _ ?_
  rw [Shape.rowMajor_val_three, Shape.rowMajor_val_two]
  show (k.val / 256 * 256 + k.val % 256) * 1024 + q.val = k.val * 1024 + q.val
  omega

/-- The product, the residual sum and the norm, of whole arrays. -/
def final5 (a : Vec Ideal S4096x1024 .bf16) (w : Vec Ideal S4x256x1024 .bf16) (i : S4096x1024.Idx) : EReal :=
  Rows.prod (row (n := 4096) a (i 0)) (whole w) (i 1)
def final6 (a : Vec Ideal S4096x1024 .bf16) (w : Vec Ideal S4x256x1024 .bf16) (x : Vec Ideal S4096x1024 .f32) (g : Vec Ideal S1x1024 .f32) (i : S4096x1024.Idx) : EReal :=
  Rows.plus (row (n := 4096) x (i 0)) (Rows.prod (row (n := 4096) a (i 0)) (whole w)) (row (n := 1) g 0) (i 1)
def final7 (a : Vec Ideal S4096x1024 .bf16) (w : Vec Ideal S4x256x1024 .bf16) (x : Vec Ideal S4096x1024 .f32) (g g' : Vec Ideal S1x1024 .f32) (i : S4096x1024.Idx) : EReal :=
  Rows.norm (Rows.plus (row (n := 4096) x (i 0)) (Rows.prod (row (n := 4096) a (i 0)) (whole w)) (row (n := 1) g 0)) (row (n := 1) g' 0) (i 1)

section
variable {x0 x1 x2 x3 x4} {a : Vec Ideal S4096x1024 .bf16} {w : Vec Ideal S4x256x1024 .bf16} {x : Vec Ideal S4096x1024 .f32} {g g' : Vec Ideal S1x1024 .f32} {y : S512x1024.Idx} {i : S4096x1024.Idx}
  (h0 : ∀ k : Fin 1024, x0 (Idealize.ShloMosaic.ix2 (y 0) k) = a (Idealize.ShloMosaic.ix2 (i 0) k))
  (h1 : ∀ k q : Fin 1024, x1 (Idealize.ShloMosaic.ix2 k q) = whole w k q)
  (h2 : ∀ k : Fin 1024, x2 (Idealize.ShloMosaic.ix2 (y 0) k) = x (Idealize.ShloMosaic.ix2 (i 0) k))
  (h3 : ∀ k : Fin 1024, x3 (Idealize.ShloMosaic.ix2 0 k) = g (Idealize.ShloMosaic.ix2 0 k))
  (h4 : ∀ k : Fin 1024, x4 (Idealize.ShloMosaic.ix2 0 k) = g' (Idealize.ShloMosaic.ix2 0 k))
  (hf : ∀ f : S1x1024.Idx → EReal, f (Idealize.ShloMosaic.ix2 0 (y 1)) = f (Idealize.ShloMosaic.ix2 0 (i 1)))
include h0 h1 hf

theorem block5_eq : block5 x0 x1 y = final5 a w i := by
  have e0 : row (n := 512) x0 (y 0) = row (n := 4096) a (i 0) := funext h0
  have e1 : mat x1 = whole w := funext fun k => funext (h1 k)
  unfold block5 final5
  rw [e0, e1]
  exact hf fun j => Rows.prod (row (n := 4096) a (i 0)) (whole w) (j 1)

include h2 h3

theorem block6_eq : block6 x0 x1 x2 x3 y = final6 a w x g i := by
  have e0 : row (n := 512) x0 (y 0) = row (n := 4096) a (i 0) := funext h0
  have e1 : mat x1 = whole w := funext fun k => funext (h1 k)
  have e2 : row (n := 512) x2 (y 0) = row (n := 4096) x (i 0) := funext h2
  have e3 : row (n := 1) x3 0 = row (n := 1) g 0 := funext h3
  unfold block6 final6
  rw [e0, e1, e2, e3]
  exact hf fun j => Rows.plus (row (n := 4096) x (i 0)) (Rows.prod (row (n := 4096) a (i 0)) (whole w)) (row (n := 1) g 0) (j 1)

include h4

theorem block7_eq : block7 x0 x1 x2 x3 x4 y = final7 a w x g g' i := by
  have e0 : row (n := 512) x0 (y 0) = row (n := 4096) a (i 0) := funext h0
  have e1 : mat x1 = whole w := funext fun k => funext (h1 k)
  have e2 : row (n := 512) x2 (y 0) = row (n := 4096) x (i 0) := funext h2
  have e3 : row (n := 1) x3 0 = row (n := 1) g 0 := funext h3
  have e4 : row (n := 1) x4 0 = row (n := 1) g' 0 := funext h4
  unfold block7 final7
  rw [e0, e1, e2, e3, e4]
  exact hf fun j => Rows.norm (Rows.plus (row (n := 4096) x (i 0)) (Rows.prod (row (n := 4096) a (i 0)) (whole w)) (row (n := 1) g 0)) (row (n := 1) g' 0) (j 1)

end

theorem arr5 : (dats m 0 c).arrAt 5 cfg0.N = final5 (m ((c : Thread nD τ).loc main_arg0)) (m ((c : Thread nD τ).loc main_arg1)) := by
  refine (dats m 0 c).arrAt_eq_of_covers 5 _ (by decide +kernel) fun t hf y => ?_
  obtain ⟨e0, e1, e2, e3, e4, e5, e6, e7⟩ := idx t
  blk_simp
  rw [after0_5, out5_apply]
  refine block5_eq (fun k => ?_) (fun k q => ?_) fun f => ?_
  · blk_point [iblk, V_main_arg0, e0, e5]
  · rw [← wval m c k q]; blk_point [iblk, e1]
  · blk_point [e5]

theorem arr6 : (dats m 0 c).arrAt 6 cfg0.N = final6 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  obtain ⟨e0, e1, e2, e3, e4, e5, e6, e7⟩ := idx t
  blk_simp
  rw [after0_6, out6_apply]
  refine block6_eq (fun k => ?_) (fun k q => ?_) (fun k => ?_) (fun k => ?_) fun f => ?_
  · blk_point [iblk, V_main_arg0, e0, e6]
  · rw [← wval m c k q]; blk_point [iblk, e1]
  · blk_point [iblk, V_main_arg2, e2, e6]
  · blk_point [iblk, V_main_arg3, e3]
  · blk_point [e6]

theorem arr7 : (dats m 0 c).arrAt 7 cfg0.N = final7 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  obtain ⟨e0, e1, e2, e3, e4, e5, e6, e7⟩ := idx t
  blk_simp
  rw [after0_7, out7_apply]
  refine block7_eq (fun k => ?_) (fun k q => ?_) (fun k => ?_) (fun k => ?_) (fun k => ?_) fun f => ?_
  · blk_point [iblk, V_main_arg0, e0, e7]
  · rw [← wval m c k q]; blk_point [iblk, e1]
  · blk_point [iblk, V_main_arg2, e2, e7]
  · blk_point [iblk, V_main_arg3, e3]
  · blk_point [iblk, V_main_arg4, e4]
  · blk_point [e7]

section
open Cert.Reference9Ideal.Read
variable (a : Vec Ideal S4096x1024 .bf16) (w : Vec Ideal S4x256x1024 .bf16) (x : Vec Ideal S4096x1024 .f32) (g g' : Vec Ideal S1x1024 .f32) (i : S4096x1024.Idx)

theorem ref5 : val_main_v3 (F := Ideal) a w i = final5 a w i := by
  rw [val_main_v3_apply]
  show _ = (∑ k : Fin 1024, a (Idealize.ShloMosaic.ix2 (i 0) k) * whole w k (i 1) : EReal)
  refine Finset.sum_congr rfl fun k _ => ?_
  rw [val_main_v2_apply, val_main_v1_apply, val_main_v0_apply]
  have h0 : (i 0).val < 4096 := (i 0).isLt
  have h1 : (i 1).val < 1024 := (i 1).isLt
  congr 1
  · refine congrArg a (funext fun d => Fin.ext ?_)
    match d with
    | ⟨0, _⟩ => rfl
    | ⟨1, _⟩ => rfl
  · refine congrArg w (funext fun d => Fin.ext ?_)
    match d with
    | ⟨0, _⟩ => show (k.val * 1024 + (i 1).val) / 262144 = k.val / 256; omega
    | ⟨1, _⟩ => show (k.val * 1024 + (i 1).val) / 1024 % 256 = k.val % 256; omega
    | ⟨2, _⟩ => show (k.val * 1024 + (i 1).val) % 1024 = (i 1).val; omega

theorem refr (j : Cert.Reference9Ideal.S4096x1.Idx) : val_main_v11 (F := Ideal) a w j = Rows.rs (Rows.prod (row (n := 4096) a (j 0)) (whole w)) := by
  rw [val_main_v11_apply, val_main_v10_apply, val_main_v8_apply, val_main_v6_apply, val_main_v5_apply, val_main_v7_apply, val_main_v9_apply, val_main_cst_apply, val_main_cst_0_apply, val_main_cst_1_apply]
  simp only [val_main_v4_apply, ref5]
  show Ideal.rsqrt (Ideal.div (Ideal.ofBits .f32 0x00000000#32 + _) _ + _) = _
  rw [Ideal.ofBits_zero_f32, zero_add]
  rfl

theorem ref6 : val_main_v16 (F := Ideal) a w x g i = final6 a w x g i := by
  rw [val_main_v16_apply, val_main_v15_apply, val_main_v13_apply, val_main_v12_apply, val_main_v14_apply, ref5, refr]
  have hx : x i = x (Idealize.ShloMosaic.ix2 (i 0) (i 1)) := congrArg x (funext fun d => by fin_cases d <;> rfl)
  have hg : g (idx_main_v14 i) = g (Idealize.ShloMosaic.ix2 0 (i 1)) := congrArg g (funext fun d => by fin_cases d <;> rfl)
  rw [hx, hg]
  rfl

theorem refs (j : Cert.Reference9Ideal.S4096x1.Idx) : val_main_v24 (F := Ideal) a w x g j = Rows.rs (Rows.plus (row (n := 4096) x (j 0)) (Rows.prod (row (n := 4096) a (j 0)) (whole w)) (row (n := 1) g 0)) := by
  rw [val_main_v24_apply, val_main_v23_apply, val_main_v21_apply, val_main_v19_apply, val_main_v18_apply, val_main_v20_apply, val_main_v22_apply, val_main_cst_2_apply, val_main_cst_3_apply, val_main_cst_4_apply]
  simp only [val_main_v17_apply, ref6]
  show Ideal.rsqrt (Ideal.div (Ideal.ofBits .f32 0x00000000#32 + _) _ + _) = _
  rw [Ideal.ofBits_zero_f32, zero_add]
  rfl

theorem ref7 : val_main_v29 (F := Ideal) a w x g g' i = final7 a w x g g' i := by
  rw [val_main_v29_apply, val_main_v28_apply, val_main_v26_apply, val_main_v25_apply, val_main_v27_apply, ref6, refs]
  have hg : g' (idx_main_v27 i) = g' (Idealize.ShloMosaic.ix2 0 (i 1)) := congrArg g' (funext fun d => by fin_cases d <;> rfl)
  rw [hg]
  rfl

end

theorem algebraic : Cert.algebraic_Kernel9Ideal_Reference9Ideal := by
  intro m g m' g' _ hm
  refine ⟨fun c => final5 (m ((c : Thread nD τ).loc main_arg0)) (m ((c : Thread nD τ).loc main_arg1)),
    fun c => final6 (m ((c : Thread nD τ).loc main_arg0)) (m ((c : Thread nD τ).loc main_arg1)) (m ((c : Thread nD τ).loc main_arg2)) (m ((c : Thread nD τ).loc main_arg3)),
    fun c => final7 (m ((c : Thread nD τ).loc main_arg0)) (m ((c : Thread nD τ).loc main_arg1)) (m ((c : Thread nD τ).loc main_arg2)) (m ((c : Thread nD τ).loc main_arg3)) (m ((c : Thread nD τ).loc main_arg4)), ?_, ?_⟩
  · exact (θ_run _ _ _).mono (fun r h c => ⟨(h c).1.trans (arr5 m c), (h c).2.1.trans (arr6 m c), (h c).2.2.1.trans (arr7 m c), (h c).2.2.2⟩) (Cert.Kernel9Ideal.Value.run_blocks (F := Ideal) m g)
  · refine (θ_run _ _ _).mono (fun r h c => ?_) (Cert.Reference9Ideal.Value.run (F := Ideal) m' g')
    obtain ⟨h0, h1, h2, h3, h4⟩ := hm c
    refine ⟨(h c).1.trans ?_, (h c).2.1.trans ?_, (h c).2.2.1.trans ?_, (h c).2.2.2⟩
    · refine (Cert.Reference9Ideal.Read.val_main_v3_eq _ _).trans ?_
      rw [h0, h1]
      exact funext fun i => ref5 _ _ i
    · refine (Cert.Reference9Ideal.Read.val_main_v16_eq _ _ _ _).trans ?_
      rw [h0, h1, h2, h3]
      exact funext fun i => ref6 _ _ _ _ i
    · refine (Cert.Reference9Ideal.Read.val_main_v29_eq m' c).trans ?_
      rw [h0, h1, h2, h3, h4]
      exact funext fun i => ref7 _ _ _ _ _ i

end Mm9
-- ==== Proof.Loss.lean ====
/- Rows of the loss and of its gradients: the functions that the loss's call is read as, and that the plain gradient of the norm is the
   short one, at infinities too. No program occurs here. -/
module

public import proofs.«01_k».proof.Proof.Rows
public import Idealize.ShloMosaic.PureOps.Ideal.Laws
public import Mathlib.Analysis.SpecialFunctions.Pow.Real

@[expose] public section

noncomputable section

namespace Rows

open Idealize.ShloMosaic

/-- What the sum of a row and of the norm of another misses the target by. -/
def err (x v g t : Fin 1024 → EReal) (q : Fin 1024) : EReal := plus x v g q - t q
/-- The gradient of the loss for that sum. -/
def dy (x v g t : Fin 1024 → EReal) (q : Fin 1024) : EReal := err x v g t q * Ideal.ofBits .f32 0x3A800000#32
/-- The mean of the squares of what it misses by. -/
def sq (x v g t : Fin 1024 → EReal) : EReal :=
  Ideal.div (∑ k : Fin 1024, err x v g t k * err x v g t k) (Ideal.ofBits .f32 0x44800000#32)
/-- The mean of the gradient of the norm times the norm. -/
def mu (d v g : Fin 1024 → EReal) : EReal :=
  Ideal.div (∑ k : Fin 1024, d k * g k * (v k * rs v)) (Ideal.ofBits .f32 0x44800000#32)
/-- The gradient for the row that the norm is of. -/
def dff (d v g : Fin 1024 → EReal) (q : Fin 1024) : EReal := rs v * (d q * g q - v q * rs v * mu d v g)
/-- What a row adds to the gradient for the gain. -/
def gain (d v : Fin 1024 → EReal) (q : Fin 1024) : EReal := d q * (v q * rs v)

/-- A row of real numbers. -/
def c (f : Fin 1024 → ℝ) (k : Fin 1024) : EReal := ((f k : ℝ) : EReal)

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_coe {a b : ℝ} (hb : b ≠ 0) : Ideal.div (a : EReal) (b : EReal) = ((a / b : ℝ) : EReal) := by
  unfold Ideal.div
  rw [if_neg (by exact_mod_cast hb), div_eq_mul_inv, EReal.coe_mul, EReal.coe_inv]

theorem rsqrt_coe {a : ℝ} (h : 0 < a) : Ideal.rsqrt (a : EReal) = (((Real.sqrt a)⁻¹ : ℝ) : EReal) := by
  show (if a < 0 then ⊥ else if a = 0 then ⊤ else (((Real.sqrt a)⁻¹ : ℝ) : EReal)) = _
  rw [if_neg (not_lt.mpr h.le), if_neg h.ne']

theorem w1024 : Ideal.ofBits .f32 0x44800000#32 = ((1024 : ℝ) : EReal) := by
  simp [Ideal.ofBits, Ideal.ieee, -EReal.coe_mul]; norm_num
theorem wi1024 : Ideal.ofBits .f32 0x3A800000#32 = ((1 / 1024 : ℝ) : EReal) := by
  simp [Ideal.ofBits, Ideal.ieee, -EReal.coe_mul]; norm_num
theorem whalf : Ideal.ofBits .f32 0x3F000000#32 = ((1 / 2 : ℝ) : EReal) := by
  simp [Ideal.ofBits, Ideal.ieee, -EReal.coe_mul]; norm_num
theorem wnhalf : Ideal.ofBits .f32 0xBF000000#32 = ((-(1 / 2) : ℝ) : EReal) := by
  simp [Ideal.ofBits, Ideal.ieee, -EReal.coe_mul]; norm_num
theorem wtwo : Ideal.ofBits .f32 0x40000000#32 = ((2 : ℝ) : EReal) := by
  simp [Ideal.ofBits, Ideal.ieee, -EReal.coe_mul]; norm_num

/-- The number under the root. -/
def eps : ℝ := 2 ^ (-20 : ℤ) * (1 + 407485 / 8388608)
theorem eps_pos : 0 < eps := by unfold eps; positivity
theorem weps : Ideal.ofBits .f32 0x358637BD#32 = (eps : EReal) := by
  unfold eps; simp [Ideal.ofBits, Ideal.ieee, -EReal.coe_mul]; norm_num

section
variable (v : Fin 1024 → ℝ)

/-- The number that the root is taken of, and one over the root. -/
def u : ℝ := (∑ k : Fin 1024, v k * v k) / 1024 + eps
def r : ℝ := (Real.sqrt (u v))⁻¹

theorem u_pos : 0 < u v := add_pos_of_nonneg_of_pos (div_nonneg (Finset.sum_nonneg fun _ _ => mul_self_nonneg _) (by norm_num)) eps_pos

theorem r_nonneg : 0 ≤ r v := inv_nonneg.mpr (Real.sqrt_nonneg _)

theorem r_sq : r v * r v = 1 / u v := by
  unfold r
  rw [← mul_inv, Real.mul_self_sqrt (u_pos v).le, one_div]

end

theorem div_1024 (x : EReal) : Ideal.div x (Ideal.ofBits .f32 0x44800000#32) = x * ((1 / 1024 : ℝ) : EReal) := by
  unfold Ideal.div
  rw [w1024, if_neg (by norm_num), ← EReal.coe_inv, one_div]

/-- What the root is taken of. -/
def arg (v : Fin 1024 → EReal) : EReal := Ideal.div (∑ k : Fin 1024, v k * v k) (Ideal.ofBits .f32 0x44800000#32) + Ideal.ofBits .f32 0x358637BD#32

theorem rs_arg (v : Fin 1024 → EReal) : rs v = Ideal.rsqrt (arg v) := rfl

theorem arg_c (v : Fin 1024 → ℝ) : arg (c v) = ((u v : ℝ) : EReal) := by
  have h : ∑ k : Fin 1024, c v k * c v k = ((∑ k : Fin 1024, v k * v k : ℝ) : EReal) := by
    rw [← coe_sum]; exact Finset.sum_congr rfl fun k _ => (EReal.coe_mul _ _).symm
  unfold arg
  rw [h, w1024, div_coe (by norm_num), weps, ← EReal.coe_add]
  rfl

theorem rs_c (v : Fin 1024 → ℝ) : rs (c v) = ((r v : ℝ) : EReal) := by
  rw [rs_arg, arg_c]
  exact rsqrt_coe (u_pos v)

theorem sq_nonneg' (x : EReal) : 0 ≤ x * x := by
  induction x using EReal.rec with
  | bot => rw [EReal.bot_mul_bot]; exact le_top
  | top => rw [EReal.top_mul_top]; exact le_top
  | coe x => rw [← EReal.coe_mul]; exact_mod_cast mul_self_nonneg x

/-- If an entry is infinite, so is what the root is taken of. -/
theorem arg_top (v : Fin 1024 → EReal) (k : Fin 1024) (h : v k * v k = ⊤) : arg v = ⊤ := by
  have hs : ∑ k : Fin 1024, v k * v k = ⊤ :=
    top_le_iff.mp (h ▸ Finset.single_le_sum (f := fun k => v k * v k) (fun k _ => sq_nonneg' (v k)) (Finset.mem_univ k))
  unfold arg
  rw [hs, div_1024, weps, EReal.top_mul_coe_of_pos (by norm_num), EReal.top_add_coe]

theorem coe_mul_sum {ι : Type*} (s : Finset ι) (f : ι → EReal) {a : ℝ} (ha : 0 ≤ a) : (a : EReal) * ∑ i ∈ s, f i = ∑ i ∈ s, (a : EReal) * f i := by
  classical
  induction s using Finset.induction_on with
  | empty => simp
  | insert b s hb ih => rw [Finset.sum_insert hb, Finset.sum_insert hb, EReal.left_distrib_of_nonneg_of_ne_top (by exact_mod_cast ha) (EReal.coe_ne_top _), ih]

theorem add_self (y : EReal) : y + y = ((2 : ℝ) : EReal) * y := by
  have h : (((1 : ℝ) : EReal) + ((1 : ℝ) : EReal)) * y = ((1 : ℝ) : EReal) * y + ((1 : ℝ) : EReal) * y :=
    EReal.right_distrib_of_nonneg (by norm_num) (by norm_num)
  rw [← EReal.coe_add, EReal.coe_one, one_mul, one_add_one_eq_two] at h
  exact h.symm

/-- The gradient as the plain backward pass writes it: through the root's argument. -/
def plain (d v g : Fin 1024 → EReal) : EReal :=
  Ideal.div ((∑ k : Fin 1024, v k * (d k * g k)) * (Ideal.ofBits .f32 0xBF000000#32 * Ideal.div (rs v) (arg v))) (Ideal.ofBits .f32 0x44800000#32)

theorem dff_plain (d v g : Fin 1024 → EReal) (q : Fin 1024) :
    d q * g q * rs v + v q * plain d v g + plain d v g * v q = dff d v g q := by
  by_cases hv : ∃ k, v k * v k = ⊤
  · obtain ⟨k, hk⟩ := hv
    have ha := arg_top v k hk
    have hr : rs v = 0 := by rw [rs_arg, ha]; rfl
    have hp : plain d v g = 0 := by
      unfold plain
      rw [hr, ha, div_1024]
      have h0 : Ideal.div 0 ⊤ = 0 := by
        unfold Ideal.div
        rw [if_neg (by simp)]
        simp
      rw [h0, mul_zero, mul_zero, zero_mul]
    unfold dff
    rw [hr, hp, mul_zero, mul_zero, zero_mul, zero_mul, add_zero, add_zero]
  · have hf : v = c fun k => (v k).toReal := funext fun k => (EReal.coe_toReal (fun e => hv ⟨k, by rw [e, EReal.top_mul_top]⟩) (fun e => hv ⟨k, by rw [e, EReal.bot_mul_bot]⟩)).symm
    generalize (fun k => (v k).toReal) = f at hf
    subst hf
    unfold dff plain mu
    rw [rs_c, arg_c, div_coe (u_pos f).ne', wnhalf, div_1024, div_1024, ← EReal.coe_mul]
    have hs : ∑ k : Fin 1024, d k * g k * (c f k * ((r f : ℝ) : EReal)) = ((r f : ℝ) : EReal) * ∑ k : Fin 1024, c f k * (d k * g k) := by
      rw [coe_mul_sum _ _ (r_nonneg f)]
      exact Finset.sum_congr rfl fun k _ => by ac_rfl
    rw [hs]
    generalize (∑ k : Fin 1024, c f k * (d k * g k)) = s
    generalize d q * g q = w
    rw [show c f q = ((f q : ℝ) : EReal) from rfl]
    generalize f q = b
    have e : r f / u f = r f * (r f * r f) := by rw [r_sq]; ring
    rw [e]
    have hr := r_nonneg f
    generalize r f = p at hr
    have h1 : (b : EReal) * (p : EReal) * ((p : EReal) * s * ((1 / 1024 : ℝ) : EReal)) = s * ((b * p * p * (1 / 1024) : ℝ) : EReal) := by
      rw [EReal.coe_mul, EReal.coe_mul, EReal.coe_mul]
      ac_rfl
    have h2 : (b : EReal) * (s * ((-(1 / 2) * (p * (p * p)) : ℝ) : EReal) * ((1 / 1024 : ℝ) : EReal)) = s * ((b * (-(1 / 2) * (p * (p * p))) * (1 / 1024) : ℝ) : EReal) := by
      rw [EReal.coe_mul (b * (-(1 / 2) * (p * (p * p)))), EReal.coe_mul b]
      ac_rfl
    have h3 : s * ((-(1 / 2) * (p * (p * p)) : ℝ) : EReal) * ((1 / 1024 : ℝ) : EReal) * (b : EReal) = s * ((b * (-(1 / 2) * (p * (p * p))) * (1 / 1024) : ℝ) : EReal) := by
      rw [EReal.coe_mul (b * (-(1 / 2) * (p * (p * p)))), EReal.coe_mul b]
      ac_rfl
    rw [h1, h2, h3, add_assoc, add_self, sub_eq_add_neg, EReal.left_distrib_of_nonneg_of_ne_top (by exact_mod_cast hr) (EReal.coe_ne_top _), mul_comm w]
    refine congrArg (fun y : EReal => (p : EReal) * w + y) ?_
    rw [← mul_neg, ← EReal.coe_neg]
    have h4 (a b' : ℝ) : ((a : ℝ) : EReal) * (s * ((b' : ℝ) : EReal)) = s * ((a * b' : ℝ) : EReal) := by
      rw [EReal.coe_mul]
      ac_rfl
    rw [h4, h4]
    refine congrArg (fun y : ℝ => s * (y : EReal)) ?_
    ring

/-- The gradient of the halved mean square, as the plain backward pass writes it. -/
theorem dy_plain (e : EReal) :
    Ideal.div (Ideal.ofBits .f32 0x3F000000#32 * Ideal.ofBits .f32 0x3F800000#32) (Ideal.ofBits .f32 0x44800000#32) * (Ideal.ofBits .f32 0x40000000#32 * e) = e * Ideal.ofBits .f32 0x3A800000#32 := by
  rw [div_1024, whalf, Ideal.ofBits_one_f32, wtwo, wi1024, ← EReal.coe_one, ← EReal.coe_mul, ← EReal.coe_mul, ← mul_assoc, ← EReal.coe_mul, mul_comm]
  refine congrArg (fun y : ℝ => e * (y : EReal)) ?_
  norm_num

end Rows
-- ==== Proof.Mm10.lean ====
/- The second product of the channel mixer with the last norm, the loss and the gradients through them: what its call writes is what
   the reference computes, where every entry is a number. -/
module

public import proofs.«01_k».proof.Proof.Loss
public import proofs.«01_k».proof.Proof.Gen.Kernel10Ideal.Value
public import Idealize.ShloMosaic.Lib.Pipeline.ValueKit
public import Idealize.ShloMosaic.Lib.WholeRead

@[expose] public section

noncomputable section

namespace Mm10

open Idealize.ShloMosaic Idealize.ShloMosaic.TcCoe Idealize.SL.Sem Cert.Kernel10Ideal Cert.Kernel10Ideal.Gen

/-- A row of a matrix. -/
def row {n k : ℕ} (a : (⟨2, ![n, k]⟩ : Shape).Idx → EReal) (r : Fin n) (j : Fin k) : EReal := a (Idealize.ShloMosaic.ix2 r j)

/-- The product's rows, the gradient of the loss for the sum, and the mean square a row adds to the loss. -/
def V {n : ℕ} (a : (⟨2, ![n, 4096]⟩ : Shape).Idx → EReal) (w : (⟨2, ![4096, 1024]⟩ : Shape).Idx → EReal) (r : Fin n) : Fin 1024 → EReal :=
  Rows.prod (row a r) (row w)
def D {n : ℕ} (a : (⟨2, ![n, 4096]⟩ : Shape).Idx → EReal) (w : (⟨2, ![4096, 1024]⟩ : Shape).Idx → EReal)
    (x t : (⟨2, ![n, 1024]⟩ : Shape).Idx → EReal) (g : (⟨2, ![1, 1024]⟩ : Shape).Idx → EReal) (r : Fin n) : Fin 1024 → EReal :=
  Rows.dy (row x r) (V a w r) (row g 0) (row t r)
def Q {n : ℕ} (a : (⟨2, ![n, 4096]⟩ : Shape).Idx → EReal) (w : (⟨2, ![4096, 1024]⟩ : Shape).Idx → EReal)
    (x t : (⟨2, ![n, 1024]⟩ : Shape).Idx → EReal) (g : (⟨2, ![1, 1024]⟩ : Shape).Idx → EReal) (r : Fin n) : EReal :=
  Rows.sq (row x r) (V a w r) (row g 0) (row t r)

section
variable (x t : Vec Ideal S256x1024 .f32) (g : Vec Ideal S1x1024 .f32) (a : Vec Ideal S256x4096 .bf16) (w : Vec Ideal S4096x1024 .bf16)
  (v d : FVec Ideal S256x1024 .f32) (z : S256x1024.Idx)

theorem pay3_apply : k0_pay3 a w z = V (n := 256) a w (z 0) (z 1) := by
  pointwise [k0_pay3, V, Rows.prod, row]

theorem pay14_apply : k0_pay14 a w z = V (n := 256) a w (z 0) (z 1) := by
  pointwise [k0_pay14, V, Rows.prod, row]

theorem pay3_row (r : Fin 256) : row (n := 256) (k := 1024) (k0_pay3 a w) r = V (n := 256) a w r := funext fun k => pay3_apply a w (Idealize.ShloMosaic.ix2 r k)
theorem pay14_row (r : Fin 256) : row (n := 256) (k := 1024) (k0_pay14 a w) r = V (n := 256) a w r := funext fun k => pay14_apply a w (Idealize.ShloMosaic.ix2 r k)

theorem self (x : Vec Ideal S256x1024 .f32) (z : S256x1024.Idx) : x z = x (Idealize.ShloMosaic.ix2 (z 0) (z 1)) :=
  congrArg x (funext fun d => by fin_cases d <;> rfl)

theorem pay4_apply : k0_pay4 x g a w z = Rows.plus (row (n := 256) (k := 1024) x (z 0)) (V (n := 256) a w (z 0)) (row (n := 1) (k := 1024) g 0) (z 1) := by
  pointwise [k0_pay4]
  simp only [pay3_apply]
  rw [self x z]
  rfl

theorem pay15_apply : k0_pay15 x g a w z = Rows.plus (row (n := 256) (k := 1024) x (z 0)) (V (n := 256) a w (z 0)) (row (n := 1) (k := 1024) g 0) (z 1) := by
  pointwise [k0_pay15]
  simp only [pay14_apply]
  rw [self x z]
  rfl

theorem pay5_apply : k0_pay5 x t g a w z = D (n := 256) a w x t g (z 0) (z 1) := by
  pointwise [k0_pay5]
  rw [pay4_apply, self t z]
  rfl

theorem pay16_apply : k0_pay16 x t g a w z = D (n := 256) a w x t g (z 0) (z 1) := by
  pointwise [k0_pay16]
  rw [pay15_apply, self t z]
  rfl

theorem pay5_row (r : Fin 256) : row (n := 256) (k := 1024) (k0_pay5 x t g a w) r = D (n := 256) a w x t g r := funext fun k => pay5_apply x t g a w (Idealize.ShloMosaic.ix2 r k)
theorem pay16_row (r : Fin 256) : row (n := 256) (k := 1024) (k0_pay16 x t g a w) r = D (n := 256) a w x t g r := funext fun k => pay16_apply x t g a w (Idealize.ShloMosaic.ix2 r k)

theorem pay6_apply (j : S256x1.Idx) : k0_pay6 x t g a w j = Q (n := 256) a w x t g (j 0) := by
  pointwise [k0_pay6]
  simp only [pay4_apply]
  rfl

theorem pay17_apply (j : S1x1.Idx) : k0_pay17 x t g a w j = (Ideal.ofBits .f32 0x3F000000#32 * ∑ r : Fin 256, Q (n := 256) a w x t g r : EReal) := by
  pointwise [k0_pay17]
  simp only [pay15_apply]
  rfl

theorem pay9_apply (j : S1x128.Idx) : k0_pay9 (k0_pay6 x t g a w) j = (Ideal.ofBits .f32 0x3F000000#32 * ∑ r : Fin 256, Q (n := 256) a w x t g r : EReal) := by
  pointwise [k0_pay9]
  simp only [pay6_apply]
  rfl

theorem pay10_apply : k0_pay10 g v d z = Rows.dff (row (n := 256) (k := 1024) d (z 0)) (row (n := 256) (k := 1024) v (z 0)) (row (n := 1) (k := 1024) g 0) (z 1) := by
  pointwise [k0_pay10, k0_pay8, k0_pay7]
  rw [self v z, self d z]
  rfl

theorem pay21_apply : k0_pay21 g (k0_pay14 a w) d (k0_pay18 a w) z = Rows.dff (row (n := 256) (k := 1024) d (z 0)) (V (n := 256) a w (z 0)) (row (n := 1) (k := 1024) g 0) (z 1) := by
  pointwise [k0_pay21, k0_pay20, k0_pay19, k0_pay18]
  simp only [pay14_apply]
  rw [self d z]
  rfl

theorem pay11_apply (l : Vec Ideal S1x1024 .f32) (j : S1x1024.Idx) :
    k0_pay11 v d l j = (l j + ∑ r : Fin 256, Rows.gain (row (n := 256) (k := 1024) d r) (row (n := 256) (k := 1024) v r) (j 1) : EReal) := by
  pointwise [k0_pay11, k0_pay8, k0_pay7]
  rfl

theorem pay22_apply (l : Vec Ideal S1x1024 .f32) (j : S1x1024.Idx) :
    k0_pay22 (k0_pay14 a w) d (k0_pay18 a w) l j = (l j + ∑ r : Fin 256, Rows.gain (row (n := 256) (k := 1024) d r) (V (n := 256) a w r) (j 1) : EReal) := by
  pointwise [k0_pay22, k0_pay20, k0_pay19, k0_pay18]
  simp only [pay14_apply]
  rfl

theorem pay13_apply (l s : Vec Ideal S1x128 .f32) (j : S1x128.Idx) : k0_pay13 s (k0_pay12 l) j = (l j + s j : EReal) := by
  pointwise [k0_pay13, k0_pay12]

theorem pay23_apply (l : Vec Ideal S1x128 .f32) (j : S1x128.Idx) :
    k0_pay23 (k0_pay17 x t g a w) l j = (l j + Ideal.ofBits .f32 0x3F000000#32 * ∑ r : Fin 256, Q (n := 256) a w x t g r : EReal) := by
  pointwise [k0_pay23]
  rw [pay17_apply]

end

theorem hz : (![0, 0] : Fin 2 → Nat) = fun _ => 0 := funext fun a => by fin_cases a <;> rfl

/-- The upper and the lower rows of a block. -/
abbrev aLo : Rect S512x4096 := Rect.unit (s := S512x4096) ![0, 0] ![256, 4096] inb_S512x4096_S256x4096_0_0
abbrev aHi : Rect S512x4096 := Rect.unit (s := S512x4096) ![256, 0] ![256, 4096] inb_S512x4096_S256x4096_256_0
abbrev xLo : Rect S512x1024 := Rect.unit (s := S512x1024) ![0, 0] ![256, 1024] inb_S512x1024_S256x1024_0_0
abbrev xHi : Rect S512x1024 := Rect.unit (s := S512x1024) ![256, 0] ![256, 1024] inb_S512x1024_S256x1024_256_0
/-- Where a row of either lies in the block. -/
def lo (r : Fin 256) : Fin 512 := Fin.castAdd 256 r
def hi (r : Fin 256) : Fin 512 := Fin.natAdd 256 r

theorem sum_halves (f : Fin 512 → EReal) : ∑ r : Fin 512, f r = ∑ r : Fin 256, f (lo r) + ∑ r : Fin 256, f (hi r) :=
  Fin.sum_univ_add (a := 256) (b := 256) f

theorem lo0 (z : S256x1024.Idx) : (xLo.emb z 0 : Fin 512) = lo (z 0) :=
  Fin.ext ((ValueKit.rect_emb_unit_val _ _ _ _ _ : (xLo.emb z 0).val = 0 + (z 0).val).trans (Nat.zero_add _))
theorem lo1 (z : S256x1024.Idx) : (xLo.emb z 1 : Fin 1024) = z 1 :=
  Fin.ext ((ValueKit.rect_emb_unit_val _ _ _ _ _ : (xLo.emb z 1).val = 0 + (z 1).val).trans (Nat.zero_add _))
theorem hi0 (z : S256x1024.Idx) : (xHi.emb z 0 : Fin 512) = hi (z 0) :=
  Fin.ext (ValueKit.rect_emb_unit_val _ _ _ _ _ : (xHi.emb z 0).val = 256 + (z 0).val)
theorem hi1 (z : S256x1024.Idx) : (xHi.emb z 1 : Fin 1024) = z 1 :=
  Fin.ext ((ValueKit.rect_emb_unit_val _ _ _ _ _ : (xHi.emb z 1).val = 0 + (z 1).val).trans (Nat.zero_add _))

section
variable (x0 : Vec Ideal S512x4096 .bf16) (x1 : Vec Ideal S4096x1024 .bf16) (x2 x3 x : Vec Ideal S512x1024 .f32) (x4 xo7 : Vec Ideal S1x1024 .f32) (xo8 : Vec Ideal S1x128 .f32) (r : Fin 256)

theorem arow_lo : row (n := 256) (k := 4096) (View.ld (Val := Elt Ideal) x0 aLo) r = row (n := 512) (k := 4096) x0 (lo r) := by
  funext k
  refine congrArg x0 (funext fun d => Fin.ext ?_)
  match d with
  | ⟨0, _⟩ => exact (ValueKit.rect_emb_unit_val _ _ _ _ _ : (aLo.emb (Idealize.ShloMosaic.ix2 r k) 0).val = 0 + r.val).trans (Nat.zero_add _)
  | ⟨1, _⟩ => exact (ValueKit.rect_emb_unit_val _ _ _ _ _ : (aLo.emb (Idealize.ShloMosaic.ix2 r k) 1).val = 0 + k.val).trans (Nat.zero_add _)
theorem arow_hi : row (n := 256) (k := 4096) (View.ld (Val := Elt Ideal) x0 aHi) r = row (n := 512) (k := 4096) x0 (hi r) := by
  funext k
  refine congrArg x0 (funext fun d => Fin.ext ?_)
  match d with
  | ⟨0, _⟩ => exact (ValueKit.rect_emb_unit_val _ _ _ _ _ : (aHi.emb (Idealize.ShloMosaic.ix2 r k) 0).val = 256 + r.val)
  | ⟨1, _⟩ => exact (ValueKit.rect_emb_unit_val _ _ _ _ _ : (aHi.emb (Idealize.ShloMosaic.ix2 r k) 1).val = 0 + k.val).trans (Nat.zero_add _)
theorem xrow_lo : row (n := 256) (k := 1024) (View.ld (Val := Elt Ideal) x xLo) r = row (n := 512) (k := 1024) x (lo r) := by
  funext k
  refine congrArg x (funext fun d => Fin.ext ?_)
  match d with
  | ⟨0, _⟩ => exact (ValueKit.rect_emb_unit_val _ _ _ _ _ : (xLo.emb (Idealize.ShloMosaic.ix2 r k) 0).val = 0 + r.val).trans (Nat.zero_add _)
  | ⟨1, _⟩ => exact (ValueKit.rect_emb_unit_val _ _ _ _ _ : (xLo.emb (Idealize.ShloMosaic.ix2 r k) 1).val = 0 + k.val).trans (Nat.zero_add _)
theorem xrow_hi : row (n := 256) (k := 1024) (View.ld (Val := Elt Ideal) x xHi) r = row (n := 512) (k := 1024) x (hi r) := by
  funext k
  refine congrArg x (funext fun d => Fin.ext ?_)
  match d with
  | ⟨0, _⟩ => exact (ValueKit.rect_emb_unit_val _ _ _ _ _ : (xHi.emb (Idealize.ShloMosaic.ix2 r k) 0).val = 256 + r.val)
  | ⟨1, _⟩ => exact (ValueKit.rect_emb_unit_val _ _ _ _ _ : (xHi.emb (Idealize.ShloMosaic.ix2 r k) 1).val = 0 + k.val).trans (Nat.zero_add _)

theorem V_lo : V (n := 256) (View.ld (Val := Elt Ideal) x0 aLo) x1 r = V (n := 512) x0 x1 (lo r) := by
  unfold V
  rw [arow_lo]
theorem D_lo : D (n := 256) (View.ld (Val := Elt Ideal) x0 aLo) x1 (View.ld (Val := Elt Ideal) x2 xLo) (View.ld (Val := Elt Ideal) x3 xLo) x4 r = D (n := 512) x0 x1 x2 x3 x4 (lo r) := by
  unfold D
  rw [V_lo, xrow_lo x2, xrow_lo x3]
theorem Q_lo : Q (n := 256) (View.ld (Val := Elt Ideal) x0 aLo) x1 (View.ld (Val := Elt Ideal) x2 xLo) (View.ld (Val := Elt Ideal) x3 xLo) x4 r = Q (n := 512) x0 x1 x2 x3 x4 (lo r) := by
  unfold Q
  rw [V_lo, xrow_lo x2, xrow_lo x3]
theorem V_hi : V (n := 256) (View.ld (Val := Elt Ideal) x0 aHi) x1 r = V (n := 512) x0 x1 (hi r) := by
  unfold V
  rw [arow_hi]
theorem D_hi : D (n := 256) (View.ld (Val := Elt Ideal) x0 aHi) x1 (View.ld (Val := Elt Ideal) x2 xHi) (View.ld (Val := Elt Ideal) x3 xHi) x4 r = D (n := 512) x0 x1 x2 x3 x4 (hi r) := by
  unfold D
  rw [V_hi, xrow_hi x2, xrow_hi x3]
theorem Q_hi : Q (n := 256) (View.ld (Val := Elt Ideal) x0 aHi) x1 (View.ld (Val := Elt Ideal) x2 xHi) (View.ld (Val := Elt Ideal) x3 xHi) x4 r = Q (n := 512) x0 x1 x2 x3 x4 (hi r) := by
  unfold Q
  rw [V_hi, xrow_hi x2, xrow_hi x3]

/-- The two stores of the gradients, and what they hold. -/
abbrev L5 : List (View.Piece (Elt Ideal) S512x1024 .f32) :=
  [⟨xHi, k0_pay16 (View.ld (Val := Elt Ideal) x2 xHi) (View.ld (Val := Elt Ideal) x3 xHi) x4 (View.ld (Val := Elt Ideal) x0 aHi) x1⟩,
    ⟨xLo, k0_pay5 (View.ld (Val := Elt Ideal) x2 xLo) (View.ld (Val := Elt Ideal) x3 xLo) x4 (View.ld (Val := Elt Ideal) x0 aLo) x1⟩]
abbrev L6 : List (View.Piece (Elt Ideal) S512x1024 .bf16) :=
  [⟨xHi, k0_pay21 x4 (k0_pay14 (View.ld (Val := Elt Ideal) x0 aHi) x1) (k0_pay16 (View.ld (Val := Elt Ideal) x2 xHi) (View.ld (Val := Elt Ideal) x3 xHi) x4 (View.ld (Val := Elt Ideal) x0 aHi) x1) (k0_pay18 (View.ld (Val := Elt Ideal) x0 aHi) x1)⟩,
    ⟨xLo, k0_pay10 x4 (k0_pay3 (View.ld (Val := Elt Ideal) x0 aLo) x1) (k0_pay5 (View.ld (Val := Elt Ideal) x2 xLo) (View.ld (Val := Elt Ideal) x3 xLo) x4 (View.ld (Val := Elt Ideal) x0 aLo) x1)⟩]

/-- The gradient for the product, of a block. -/
def E {n : ℕ} (a : (⟨2, ![n, 4096]⟩ : Shape).Idx → EReal) (w : (⟨2, ![4096, 1024]⟩ : Shape).Idx → EReal)
    (x t : (⟨2, ![n, 1024]⟩ : Shape).Idx → EReal) (g : (⟨2, ![1, 1024]⟩ : Shape).Idx → EReal) (r : Fin n) : Fin 1024 → EReal :=
  Rows.dff (D a w x t g r) (V a w r) (row g 0)
/-- What a row adds to the gradient for the gain. -/
def W {n : ℕ} (a : (⟨2, ![n, 4096]⟩ : Shape).Idx → EReal) (w : (⟨2, ![4096, 1024]⟩ : Shape).Idx → EReal)
    (x t : (⟨2, ![n, 1024]⟩ : Shape).Idx → EReal) (g : (⟨2, ![1, 1024]⟩ : Shape).Idx → EReal) (q : Fin 1024) (r : Fin n) : EReal :=
  Rows.gain (D a w x t g r) (V a w r) q

theorem E_lo : E (n := 256) (View.ld (Val := Elt Ideal) x0 aLo) x1 (View.ld (Val := Elt Ideal) x2 xLo) (View.ld (Val := Elt Ideal) x3 xLo) x4 r = E (n := 512) x0 x1 x2 x3 x4 (lo r) := by
  unfold E
  rw [D_lo, V_lo]
theorem E_hi : E (n := 256) (View.ld (Val := Elt Ideal) x0 aHi) x1 (View.ld (Val := Elt Ideal) x2 xHi) (View.ld (Val := Elt Ideal) x3 xHi) x4 r = E (n := 512) x0 x1 x2 x3 x4 (hi r) := by
  unfold E
  rw [D_hi, V_hi]
theorem pc5_hi (z : S256x1024.Idx) : k0_pay16 (View.ld (Val := Elt Ideal) x2 xHi) (View.ld (Val := Elt Ideal) x3 xHi) x4 (View.ld (Val := Elt Ideal) x0 aHi) x1 z
    = D (n := 512) x0 x1 x2 x3 x4 (xHi.emb z 0) (xHi.emb z 1) := by
  refine (pay16_apply _ _ _ _ _ z).trans ((congrFun (D_hi x0 x1 x2 x3 x4 (z 0)) (z 1)).trans ?_)
  exact congrArg₂ (fun p q => D (n := 512) x0 x1 x2 x3 x4 p q) (hi0 z).symm (hi1 z).symm
theorem pc5_lo (z : S256x1024.Idx) : k0_pay5 (View.ld (Val := Elt Ideal) x2 xLo) (View.ld (Val := Elt Ideal) x3 xLo) x4 (View.ld (Val := Elt Ideal) x0 aLo) x1 z
    = D (n := 512) x0 x1 x2 x3 x4 (xLo.emb z 0) (xLo.emb z 1) := by
  refine (pay5_apply _ _ _ _ _ z).trans ((congrFun (D_lo x0 x1 x2 x3 x4 (z 0)) (z 1)).trans ?_)
  exact congrArg₂ (fun p q => D (n := 512) x0 x1 x2 x3 x4 p q) (lo0 z).symm (lo1 z).symm
theorem pc6_hi (z : S256x1024.Idx) : k0_pay21 x4 (k0_pay14 (View.ld (Val := Elt Ideal) x0 aHi) x1) (k0_pay16 (View.ld (Val := Elt Ideal) x2 xHi) (View.ld (Val := Elt Ideal) x3 xHi) x4 (View.ld (Val := Elt Ideal) x0 aHi) x1) (k0_pay18 (View.ld (Val := Elt Ideal) x0 aHi) x1) z
    = E (n := 512) x0 x1 x2 x3 x4 (xHi.emb z 0) (xHi.emb z 1) := by
  refine (pay21_apply _ _ _ _ z).trans ((congrArg (fun f => Rows.dff f (V (n := 256) (View.ld (Val := Elt Ideal) x0 aHi) x1 (z 0)) (row (n := 1) (k := 1024) x4 0) (z 1)) (pay16_row _ _ _ _ _ (z 0))).trans ((congrFun (E_hi x0 x1 x2 x3 x4 (z 0)) (z 1)).trans ?_))
  exact congrArg₂ (fun p q => E (n := 512) x0 x1 x2 x3 x4 p q) (hi0 z).symm (hi1 z).symm
theorem pc6_lo (z : S256x1024.Idx) : k0_pay10 x4 (k0_pay3 (View.ld (Val := Elt Ideal) x0 aLo) x1) (k0_pay5 (View.ld (Val := Elt Ideal) x2 xLo) (View.ld (Val := Elt Ideal) x3 xLo) x4 (View.ld (Val := Elt Ideal) x0 aLo) x1) z
    = E (n := 512) x0 x1 x2 x3 x4 (xLo.emb z 0) (xLo.emb z 1) := by
  refine (pay10_apply _ _ _ z).trans ((congrArg₂ (fun f g => Rows.dff f g (row (n := 1) (k := 1024) x4 0) (z 1)) (pay5_row _ _ _ _ _ (z 0)) (pay3_row _ _ (z 0))).trans ((congrFun (E_lo x0 x1 x2 x3 x4 (z 0)) (z 1)).trans ?_))
  exact congrArg₂ (fun p q => E (n := 512) x0 x1 x2 x3 x4 p q) (lo0 z).symm (lo1 z).symm

theorem read5 (y : S512x1024.Idx) (h : ∃ pc ∈ L5 x0 x1 x2 x3 x4, y ∈ pc.1.set) : View.canon (L5 x0 x1 x2 x3 x4) y = D (n := 512) x0 x1 x2 x3 x4 (y 0) (y 1) := by
  refine View.canon_apply_of_pieces (Val := Elt Ideal) (e := .f32) (fun y : S512x1024.Idx => D (n := 512) x0 x1 x2 x3 x4 (y 0) (y 1)) (L5 x0 x1 x2 x3 x4) ?_ y h
  intro pc hpc
  rcases List.mem_cons.mp hpc with hp | hpc
  · subst hp
    exact pc5_hi x0 x1 x2 x3 x4
  · have hp := List.mem_singleton.mp hpc
    subst hp
    exact pc5_lo x0 x1 x2 x3 x4

theorem read6 (y : S512x1024.Idx) (h : ∃ pc ∈ L6 x0 x1 x2 x3 x4, y ∈ pc.1.set) : View.canon (L6 x0 x1 x2 x3 x4) y = E (n := 512) x0 x1 x2 x3 x4 (y 0) (y 1) := by
  refine View.canon_apply_of_pieces (Val := Elt Ideal) (e := .bf16) (fun y : S512x1024.Idx => E (n := 512) x0 x1 x2 x3 x4 (y 0) (y 1)) (L6 x0 x1 x2 x3 x4) ?_ y h
  intro pc hpc
  rcases List.mem_cons.mp hpc with hp | hpc
  · subst hp
    exact pc6_hi x0 x1 x2 x3 x4
  · have hp := List.mem_singleton.mp hpc
    subst hp
    exact pc6_lo x0 x1 x2 x3 x4

/-- The two sums after one block, over what they held. -/
theorem read7 (l : Vec Ideal S1x1024 .f32) (y : S1x1024.Idx) :
    k0_pay22 (k0_pay14 (View.ld (Val := Elt Ideal) x0 aHi) x1) (k0_pay16 (View.ld (Val := Elt Ideal) x2 xHi) (View.ld (Val := Elt Ideal) x3 xHi) x4 (View.ld (Val := Elt Ideal) x0 aHi) x1) (k0_pay18 (View.ld (Val := Elt Ideal) x0 aHi) x1)
      (k0_pay11 (k0_pay3 (View.ld (Val := Elt Ideal) x0 aLo) x1) (k0_pay5 (View.ld (Val := Elt Ideal) x2 xLo) (View.ld (Val := Elt Ideal) x3 xLo) x4 (View.ld (Val := Elt Ideal) x0 aLo) x1) l) y
    = (l y + ∑ r : Fin 512, W (n := 512) x0 x1 x2 x3 x4 (y 1) r : EReal) := by
  rw [pay22_apply, pay11_apply, sum_halves, add_assoc]
  simp only [pay16_row, pay5_row, pay3_row, D_lo, D_hi, V_lo, V_hi]
  rfl

theorem half_add (p q : EReal) : Ideal.ofBits .f32 0x3F000000#32 * p + Ideal.ofBits .f32 0x3F000000#32 * q = Ideal.ofBits .f32 0x3F000000#32 * (p + q) := by
  rw [Rows.whalf, EReal.left_distrib_of_nonneg_of_ne_top (by exact_mod_cast (by norm_num : (0 : ℝ) ≤ 1 / 2)) (EReal.coe_ne_top _)]

theorem read8 (l : Vec Ideal S1x128 .f32) (y : S1x128.Idx) :
    k0_pay23 (k0_pay17 (View.ld (Val := Elt Ideal) x2 xHi) (View.ld (Val := Elt Ideal) x3 xHi) x4 (View.ld (Val := Elt Ideal) x0 aHi) x1)
      (k0_pay13 (k0_pay9 (k0_pay6 (View.ld (Val := Elt Ideal) x2 xLo) (View.ld (Val := Elt Ideal) x3 xLo) x4 (View.ld (Val := Elt Ideal) x0 aLo) x1)) (k0_pay12 l)) y
    = (l y + Ideal.ofBits .f32 0x3F000000#32 * ∑ r : Fin 512, Q (n := 512) x0 x1 x2 x3 x4 r : EReal) := by
  rw [pay23_apply, pay13_apply, pay9_apply, sum_halves, add_assoc, half_add]
  simp only [Q_lo, Q_hi]

end

section
variable (c : Dev nD) (i : grid0.Coords) (a1 : Memref sig .tc .vmem S512x4096 .bf16) (h1 : a1.IsWhole) (a2 : Memref sig .tc .vmem S4096x1024 .bf16) (h2 : a2.IsWhole)
  (a3 : Memref sig .tc .vmem S512x1024 .f32) (h3 : a3.IsWhole) (a4 : Memref sig .tc .vmem S512x1024 .f32) (h4 : a4.IsWhole) (a5 : Memref sig .tc .vmem S1x1024 .f32) (h5 : a5.IsWhole)
  (a6 : Memref sig .tc .vmem S512x1024 .f32) (h6 : a6.IsWhole) (a7 : Memref sig .tc .vmem S512x1024 .bf16) (h7 : a7.IsWhole) (a8 : Memref sig .tc .vmem S1x1024 .f32) (h8 : a8.IsWhole)
  (a9 : Memref sig .tc .vmem S1x128 .f32) (h9 : a9.IsWhole)
  (x0 : Vec Ideal S512x4096 .bf16) (x1 : Vec Ideal S4096x1024 .bf16) (x2 x3 : Vec Ideal S512x1024 .f32) (x4 xo7 : Vec Ideal S1x1024 .f32) (xo8 : Vec Ideal S1x128 .f32)

section
variable (hc0 : cond0_0 i) (hc1 : cond0_1 i)

theorem outA5 (y : S512x1024.Idx) : out0_A_5 c i a1 h1 a2 h2 a3 h3 a4 h4 a5 h5 a6 h6 a7 h7 a8 h8 a9 h9 hc0 hc1 x0 x1 x2 x3 x4 y = D (n := 512) x0 x1 x2 x3 x4 (y 0) (y 1) := by
  have h := cover0_A_5 c i a1 h1 a2 h2 a3 h3 a4 h4 a5 h5 a6 h6 a7 h7 a8 h8 a9 h9 hc0 hc1 x0 x1 x2 x3 x4 y
  unfold out0_A_5
  rw [View.read_writes_eq_canon _ _ _ (cover0_A_5 c i a1 h1 a2 h2 a3 h3 a4 h4 a5 h5 a6 h6 a7 h7 a8 h8 a9 h9 hc0 hc1 x0 x1 x2 x3 x4)]
  revert h
  unfold kernelRun0_A
  dsimp only
  sl_unfold_words
  simp only [View.readAt_eq_ld, h1.read_unread, h2.read_unread, h3.read_unread, h4.read_unread, h5.read_unread, View.ld_unit_zero (S := S4096x1024) hz, View.ld_unit_zero (S := S1x1024) hz]
  exact read5 x0 x1 x2 x3 x4 y

theorem outA6 (y : S512x1024.Idx) : out0_A_6 c i a1 h1 a2 h2 a3 h3 a4 h4 a5 h5 a6 h6 a7 h7 a8 h8 a9 h9 hc0 hc1 x0 x1 x2 x3 x4 y = E (n := 512) x0 x1 x2 x3 x4 (y 0) (y 1) := by
  have h := cover0_A_6 c i a1 h1 a2 h2 a3 h3 a4 h4 a5 h5 a6 h6 a7 h7 a8 h8 a9 h9 hc0 hc1 x0 x1 x2 x3 x4 y
  unfold out0_A_6
  rw [View.read_writes_eq_canon _ _ _ (cover0_A_6 c i a1 h1 a2 h2 a3 h3 a4 h4 a5 h5 a6 h6 a7 h7 a8 h8 a9 h9 hc0 hc1 x0 x1 x2 x3 x4)]
  revert h
  unfold kernelRun0_A
  dsimp only
  sl_unfold_words
  simp only [View.readAt_eq_ld, h1.read_unread, h2.read_unread, h3.read_unread, h4.read_unread, h5.read_unread, View.ld_unit_zero (S := S4096x1024) hz, View.ld_unit_zero (S := S1x1024) hz]
  exact read6 x0 x1 x2 x3 x4 y

theorem outA7 (y : S1x1024.Idx) : out0_A_7 c i a1 h1 a2 h2 a3 h3 a4 h4 a5 h5 a6 h6 a7 h7 a8 h8 a9 h9 hc0 hc1 x0 x1 x2 x3 x4 y = (∑ r : Fin 512, W (n := 512) x0 x1 x2 x3 x4 (y 1) r : EReal) := by
  unfold out0_A_7
  rw [View.read_writes_eq_canon _ _ _ (cover0_A_7 c i a1 h1 a2 h2 a3 h3 a4 h4 a5 h5 a6 h6 a7 h7 a8 h8 a9 h9 hc0 hc1 x0 x1 x2 x3 x4)]
  unfold kernelRun0_A
  dsimp only
  sl_unfold_words
  rw [View.canon_cons_unit_zero (S := S1x1024) hz]
  simp only [View.readCov_cons_toLoadRect, View.readCov_unit_zero (S := S1x1024) _ hz, View.readAt_eq_ld, h1.read_unread, h2.read_unread, h3.read_unread, h4.read_unread, h5.read_unread, View.ld_unit_zero (S := S4096x1024) hz, View.ld_unit_zero (S := S1x1024) hz, h8.read_unread]
  rw [read7]
  show (Ideal.ofBits .f32 0x00000000#32 + _ : EReal) = _
  rw [Ideal.ofBits_zero_f32, zero_add]

theorem outA8 (y : S1x128.Idx) : out0_A_8 c i a1 h1 a2 h2 a3 h3 a4 h4 a5 h5 a6 h6 a7 h7 a8 h8 a9 h9 hc0 hc1 x0 x1 x2 x3 x4 y = (Ideal.ofBits .f32 0x3F000000#32 * ∑ r : Fin 512, Q (n := 512) x0 x1 x2 x3 x4 r : EReal) := by
  unfold out0_A_8
  rw [View.read_writes_eq_canon _ _ _ (cover0_A_8 c i a1 h1 a2 h2 a3 h3 a4 h4 a5 h5 a6 h6 a7 h7 a8 h8 a9 h9 hc0 hc1 x0 x1 x2 x3 x4)]
  unfold kernelRun0_A
  dsimp only
  sl_unfold_words
  rw [View.canon_cons_unit_zero (S := S1x128) hz]
  simp only [View.readCov_cons_toLoadRect, View.readCov_unit_zero (S := S1x128) _ hz, View.readAt_eq_ld, h1.read_unread, h2.read_unread, h3.read_unread, h4.read_unread, h5.read_unread, View.ld_unit_zero (S := S4096x1024) hz, View.ld_unit_zero (S := S1x1024) hz, h9.read_unread, View.ld_unit_zero (S := S1x128) hz]
  rw [read8]
  show (Ideal.ofBits .f32 0x00000000#32 + _ : EReal) = _
  rw [Ideal.ofBits_zero_f32, zero_add]

end

section
variable (hc0 : ¬cond0_0 i) (hc1 : ¬cond0_1 i)

theorem outB5 (y : S512x1024.Idx) : out0_B_5 c i a1 h1 a2 h2 a3 h3 a4 h4 a5 h5 a6 h6 a7 h7 a8 h8 a9 h9 hc0 hc1 x0 x1 x2 x3 x4 xo7 xo8 y = D (n := 512) x0 x1 x2 x3 x4 (y 0) (y 1) := by
  have h := cover0_B_5 c i a1 h1 a2 h2 a3 h3 a4 h4 a5 h5 a6 h6 a7 h7 a8 h8 a9 h9 hc0 hc1 x0 x1 x2 x3 x4 xo7 xo8 y
  unfold out0_B_5
  rw [View.read_writes_eq_canon _ _ _ (cover0_B_5 c i a1 h1 a2 h2 a3 h3 a4 h4 a5 h5 a6 h6 a7 h7 a8 h8 a9 h9 hc0 hc1 x0 x1 x2 x3 x4 xo7 xo8)]
  revert h
  unfold kernelRun0_B
  dsimp only
  sl_unfold_words
  simp only [View.readAt_eq_ld, h1.read_unread, h2.read_unread, h3.read_unread, h4.read_unread, h5.read_unread, View.ld_unit_zero (S := S4096x1024) hz, View.ld_unit_zero (S := S1x1024) hz]
  exact read5 x0 x1 x2 x3 x4 y

theorem outB6 (y : S512x1024.Idx) : out0_B_6 c i a1 h1 a2 h2 a3 h3 a4 h4 a5 h5 a6 h6 a7 h7 a8 h8 a9 h9 hc0 hc1 x0 x1 x2 x3 x4 xo7 xo8 y = E (n := 512) x0 x1 x2 x3 x4 (y 0) (y 1) := by
  have h := cover0_B_6 c i a1 h1 a2 h2 a3 h3 a4 h4 a5 h5 a6 h6 a7 h7 a8 h8 a9 h9 hc0 hc1 x0 x1 x2 x3 x4 xo7 xo8 y
  unfold out0_B_6
  rw [View.read_writes_eq_canon _ _ _ (cover0_B_6 c i a1 h1 a2 h2 a3 h3 a4 h4 a5 h5 a6 h6 a7 h7 a8 h8 a9 h9 hc0 hc1 x0 x1 x2 x3 x4 xo7 xo8)]
  revert h
  unfold kernelRun0_B
  dsimp only
  sl_unfold_words
  simp only [View.readAt_eq_ld, h1.read_unread, h2.read_unread, h3.read_unread, h4.read_unread, h5.read_unread, View.ld_unit_zero (S := S4096x1024) hz, View.ld_unit_zero (S := S1x1024) hz]
  exact read6 x0 x1 x2 x3 x4 y

theorem outB7 (y : S1x1024.Idx) : out0_B_7 c i a1 h1 a2 h2 a3 h3 a4 h4 a5 h5 a6 h6 a7 h7 a8 h8 a9 h9 hc0 hc1 x0 x1 x2 x3 x4 xo7 xo8 y = (xo7 y + ∑ r : Fin 512, W (n := 512) x0 x1 x2 x3 x4 (y 1) r : EReal) := by
  unfold out0_B_7
  rw [View.read_writes_eq_canon _ _ _ (cover0_B_7 c i a1 h1 a2 h2 a3 h3 a4 h4 a5 h5 a6 h6 a7 h7 a8 h8 a9 h9 hc0 hc1 x0 x1 x2 x3 x4 xo7 xo8)]
  unfold kernelRun0_B
  dsimp only
  sl_unfold_words
  rw [View.canon_cons_unit_zero (S := S1x1024) hz]
  simp only [View.readCov_cons_toLoadRect, View.readCov_unit_zero (S := S1x1024) _ hz, View.readAt_eq_ld, h1.read_unread, h2.read_unread, h3.read_unread, h4.read_unread, h5.read_unread, View.ld_unit_zero (S := S4096x1024) hz, View.ld_unit_zero (S := S1x1024) hz, h8.read_unread]
  exact read7 x0 x1 x2 x3 x4 xo7 y

theorem outB8 (y : S1x128.Idx) : out0_B_8 c i a1 h1 a2 h2 a3 h3 a4 h4 a5 h5 a6 h6 a7 h7 a8 h8 a9 h9 hc0 hc1 x0 x1 x2 x3 x4 xo7 xo8 y = (xo8 y + Ideal.ofBits .f32 0x3F000000#32 * ∑ r : Fin 512, Q (n := 512) x0 x1 x2 x3 x4 r : EReal) := by
  unfold out0_B_8
  rw [View.read_writes_eq_canon _ _ _ (cover0_B_8 c i a1 h1 a2 h2 a3 h3 a4 h4 a5 h5 a6 h6 a7 h7 a8 h8 a9 h9 hc0 hc1 x0 x1 x2 x3 x4 xo7 xo8)]
  unfold kernelRun0_B
  dsimp only
  sl_unfold_words
  rw [View.canon_cons_unit_zero (S := S1x128) hz]
  simp only [View.readCov_cons_toLoadRect, View.readCov_unit_zero (S := S1x128) _ hz, View.readAt_eq_ld, h1.read_unread, h2.read_unread, h3.read_unread, h4.read_unread, h5.read_unread, View.ld_unit_zero (S := S4096x1024) hz, View.ld_unit_zero (S := S1x1024) hz, h9.read_unread, View.ld_unit_zero (S := S1x128) hz]
  exact read8 x0 x1 x2 x3 x4 xo8 y

end

end

theorem idx : ∀ t : Fin cfg0.grid.N, win0_0.index t = ![t.val, 0] ∧ win0_1.index t = ![0, 0] ∧ win0_2.index t = ![t.val, 0] ∧ win0_3.index t = ![t.val, 0] ∧ win0_4.index t = ![0, 0]
    ∧ win0_5.index t = ![t.val, 0] ∧ win0_6.index t = ![t.val, 0] := by
  decide +kernel

/-- The weight as one matrix. -/
def whole (w : Vec Ideal S4x1024x1024 .bf16) (i : (⟨2, ![4096, 1024]⟩ : Shape).Idx) : EReal :=
  w (Idealize.ShloMosaic.ix3 ⟨(i 0).val / 1024, by have h : (i 0).val < 4096 := (i 0).isLt; omega⟩ ⟨(i 0).val % 1024, by omega⟩ (i 1))

/-- The row of the arrays that a row of a grid point's blocks is. -/
def pos (t : Fin cfg0.N) (r : Fin 512) : Fin 4096 := ⟨512 * t.val + r.val, by have h : t.val < 8 := lt_of_lt_of_eq t.isLt N_0; omega⟩

variable (m : (ℓ : Loc nD τ sig) → Buf (Elt Ideal) ℓ) (c : Dev nD)

/-- The arguments. -/
abbrev A0 : Vec Ideal S4096x4096 .bf16 := m ((c : Thread nD τ).loc main_arg0)
abbrev A1 : Vec Ideal S4x1024x1024 .bf16 := m ((c : Thread nD τ).loc main_arg1)
abbrev A2 : Vec Ideal S4096x1024 .f32 := m ((c : Thread nD τ).loc main_arg2)
abbrev A3 : Vec Ideal S4096x1024 .f32 := m ((c : Thread nD τ).loc main_arg3)
abbrev A4 : Vec Ideal S1x1024 .f32 := m ((c : Thread nD τ).loc main_arg4)

theorem wv : Cert.Kernel10Ideal.Gen.V m c main_v0 = shapeCast S4096x1024 (m ((c : Thread nD τ).loc main_arg1)) shapeCasts_S4x1024x1024_S4096x1024 := by
  entry_read; rfl

theorem wval (k : Fin 4096) (q : Fin 1024) : (Cert.Kernel10Ideal.Gen.V m c main_v0 : Vec Ideal S4096x1024 .bf16) (Idealize.ShloMosaic.ix2 k q) = whole (A1 m c) (Idealize.ShloMosaic.ix2 k q) := by
  rw [wv]
  refine shapeCast_apply _ shapeCasts_S4x1024x1024_S4096x1024 _ _ ?_
  rw [Shape.rowMajor_val_three, Shape.rowMajor_val_two]
  show (k.val / 1024 * 1024 + k.val % 1024) * 1024 + q.val = k.val * 1024 + q.val
  omega

section
variable (t : Fin cfg0.N) (r : Fin 512)

theorem arow : row (n := 512) (k := 4096) (iblk m c 0 t) r = row (n := 4096) (k := 4096) (A0 m c) (pos t r) := by
  obtain ⟨e0, e1, e2, e3, e4, e5, e6⟩ := idx t
  funext k
  unfold row pos
  blk_point [iblk, V_main_arg0, e0]

theorem wrow : row (n := 4096) (k := 1024) (iblk m c 1 t) = row (n := 4096) (k := 1024) (whole (A1 m c)) := by
  obtain ⟨e0, e1, e2, e3, e4, e5, e6⟩ := idx t
  funext k q
  unfold row
  rw [← wval m c k q]
  blk_point [iblk, e1]

theorem xrow : row (n := 512) (k := 1024) (iblk m c 2 t) r = row (n := 4096) (k := 1024) (A2 m c) (pos t r) := by
  obtain ⟨e0, e1, e2, e3, e4, e5, e6⟩ := idx t
  funext k
  unfold row pos
  blk_point [iblk, V_main_arg2, e2]

theorem trow : row (n := 512) (k := 1024) (iblk m c 3 t) r = row (n := 4096) (k := 1024) (A3 m c) (pos t r) := by
  obtain ⟨e0, e1, e2, e3, e4, e5, e6⟩ := idx t
  funext k
  unfold row pos
  blk_point [iblk, V_main_arg3, e3]

theorem grow : row (n := 1) (k := 1024) (iblk m c 4 t) 0 = row (n := 1) (k := 1024) (A4 m c) 0 := by
  obtain ⟨e0, e1, e2, e3, e4, e5, e6⟩ := idx t
  funext k
  unfold row
  blk_point [iblk, V_main_arg4, e4]

/-- The whole arrays' rows. -/
abbrev wV (R : Fin 4096) : Fin 1024 → EReal := V (n := 4096) (A0 m c) (whole (A1 m c)) R
abbrev wD (R : Fin 4096) : Fin 1024 → EReal := D (n := 4096) (A0 m c) (whole (A1 m c)) (A2 m c) (A3 m c) (A4 m c) R
abbrev wE (R : Fin 4096) : Fin 1024 → EReal := E (n := 4096) (A0 m c) (whole (A1 m c)) (A2 m c) (A3 m c) (A4 m c) R
abbrev wW (q : Fin 1024) (R : Fin 4096) : EReal := W (n := 4096) (A0 m c) (whole (A1 m c)) (A2 m c) (A3 m c) (A4 m c) q R
abbrev wQ (R : Fin 4096) : EReal := Q (n := 4096) (A0 m c) (whole (A1 m c)) (A2 m c) (A3 m c) (A4 m c) R

theorem V_at : V (n := 512) (iblk m c 0 t) (iblk m c 1 t) r = wV m c (pos t r) := by
  unfold wV V
  rw [arow, wrow]
theorem D_at : D (n := 512) (iblk m c 0 t) (iblk m c 1 t) (iblk m c 2 t) (iblk m c 3 t) (iblk m c 4 t) r = wD m c (pos t r) := by
  unfold wD D
  rw [V_at, xrow, trow, grow]
theorem E_at : E (n := 512) (iblk m c 0 t) (iblk m c 1 t) (iblk m c 2 t) (iblk m c 3 t) (iblk m c 4 t) r = wE m c (pos t r) := by
  unfold wE E
  rw [V_at, D_at, grow]
theorem W_at (q : Fin 1024) : W (n := 512) (iblk m c 0 t) (iblk m c 1 t) (iblk m c 2 t) (iblk m c 3 t) (iblk m c 4 t) q r = wW m c q (pos t r) := by
  unfold wW W
  rw [V_at, D_at]
theorem Q_at : Q (n := 512) (iblk m c 0 t) (iblk m c 1 t) (iblk m c 2 t) (iblk m c 3 t) (iblk m c 4 t) r = wQ m c (pos t r) := by
  unfold wQ Q
  rw [V_at, xrow, trow, grow]

theorem outs5 (y : S512x1024.Idx) : (outsAt0 m c t.val t.isLt).1 y = wD m c (pos t (y 0)) (y 1) := by
  by_cases h : t.val % 8 = 0
  · rw [outsAt0_A m c t h h]
    dsimp only
    rw [outA5]
    exact congrFun (D_at m c t (y 0)) (y 1)
  · rw [outsAt0_B m c t h h]
    dsimp only
    rw [outB5]
    exact congrFun (D_at m c t (y 0)) (y 1)

theorem outs6 (y : S512x1024.Idx) : (outsAt0 m c t.val t.isLt).2.1 y = wE m c (pos t (y 0)) (y 1) := by
  by_cases h : t.val % 8 = 0
  · rw [outsAt0_A m c t h h]
    dsimp only
    rw [outA6]
    exact congrFun (E_at m c t (y 0)) (y 1)
  · rw [outsAt0_B m c t h h]
    dsimp only
    rw [outB6]
    exact congrFun (E_at m c t (y 0)) (y 1)

end

/-- A function of the rows, over all numbers. -/
def ext (f : Fin 4096 → EReal) (n : ℕ) : EReal := if h : n < 4096 then f ⟨n, h⟩ else 0

theorem sum_block (f : Fin 4096 → EReal) (t : Fin cfg0.N) : ∑ r : Fin 512, f (pos t r) = ∑ r ∈ Finset.range 512, ext f (512 * t.val + r) := by
  have h8 : t.val < 8 := lt_of_lt_of_eq t.isLt N_0
  rw [Finset.sum_range]
  refine Finset.sum_congr rfl fun r _ => ?_
  unfold ext pos
  rw [dif_pos (by omega)]

theorem sum_all (f : Fin 4096 → EReal) : ∑ R ∈ Finset.range 4096, ext f R = ∑ R : Fin 4096, f R := by
  rw [Finset.sum_range]
  refine Finset.sum_congr rfl fun R _ => ?_
  unfold ext
  rw [dif_pos R.isLt]

theorem sum_next (f : Fin 4096 → EReal) (n : ℕ) (h : n + 1 < cfg0.N) :
    ∑ R ∈ Finset.range (512 * (n + 1)), ext f R + ∑ r : Fin 512, f (pos ⟨n + 1, h⟩ r) = ∑ R ∈ Finset.range (512 * (n + 1 + 1)), ext f R := by
  rw [sum_block, show 512 * (n + 1 + 1) = 512 * (n + 1) + 512 by ring, Finset.sum_range_add]

theorem sum_first (f : Fin 4096 → EReal) (h : 0 < cfg0.N) : ∑ r : Fin 512, f (pos ⟨0, h⟩ r) = ∑ R ∈ Finset.range (512 * (0 + 1)), ext f R := by
  rw [sum_block]
  simp only [Nat.mul_zero, Nat.zero_add, Nat.mul_one]

/-- The two sums after a grid point: over the rows up to it. -/
theorem outs7 (y : S1x1024.Idx) : ∀ (n : ℕ) (h : n < cfg0.N), (outsAt0 m c n h).2.2.1 y = (∑ R ∈ Finset.range (512 * (n + 1)), ext (wW m c (y 1)) R : EReal)
  | 0, h => by
    have e := outsAt0_A m c ⟨0, h⟩ rfl rfl
    dsimp only at e
    rw [e]
    dsimp only
    rw [outA7]
    exact (Finset.sum_congr rfl fun r _ => W_at m c ⟨0, h⟩ r (y 1)).trans (sum_first (wW m c (y 1)) h)
  | n + 1, h => by
    have h8 : n + 1 < 8 := lt_of_lt_of_eq h N_0
    have hB : ¬ (⟨n + 1, h⟩ : Fin cfg0.N).val % 8 = 0 := by dsimp only; omega
    have e := outsAt0_B m c ⟨n + 1, h⟩ hB hB
    dsimp only at e
    rw [e]
    dsimp only
    rw [outB7]
    refine (congrArg₂ (fun p q : EReal => p + q) (outs7 y n _) (Finset.sum_congr rfl fun r _ => W_at m c ⟨n + 1, h⟩ r (y 1))).trans (sum_next (wW m c (y 1)) n h)

theorem outs8 (y : S1x128.Idx) : ∀ (n : ℕ) (h : n < cfg0.N), (outsAt0 m c n h).2.2.2 y = (Ideal.ofBits .f32 0x3F000000#32 * ∑ R ∈ Finset.range (512 * (n + 1)), ext (wQ m c) R : EReal)
  | 0, h => by
    have e := outsAt0_A m c ⟨0, h⟩ rfl rfl
    dsimp only at e
    rw [e]
    dsimp only
    rw [outA8]
    exact congrArg (fun p : EReal => Ideal.ofBits .f32 0x3F000000#32 * p) ((Finset.sum_congr rfl fun r _ => Q_at m c ⟨0, h⟩ r).trans (sum_first (wQ m c) h))
  | n + 1, h => by
    have h8 : n + 1 < 8 := lt_of_lt_of_eq h N_0
    have hB : ¬ (⟨n + 1, h⟩ : Fin cfg0.N).val % 8 = 0 := by dsimp only; omega
    have e := outsAt0_B m c ⟨n + 1, h⟩ hB hB
    dsimp only at e
    rw [e]
    dsimp only
    rw [outB8]
    refine (congrArg₂ (fun p q : EReal => p + Ideal.ofBits .f32 0x3F000000#32 * q) (outs8 y n _) (Finset.sum_congr rfl fun r _ => Q_at m c ⟨n + 1, h⟩ r)).trans ?_
    rw [← sum_next (wQ m c) n h, ← half_add]

/-- What the four arrays end holding. -/
def final5 (i : S4096x1024.Idx) : EReal := wD m c (i 0) (i 1)
def final6 (i : S4096x1024.Idx) : EReal := wE m c (i 0) (i 1)
def final7 (i : S1x1024.Idx) : EReal := ∑ R : Fin 4096, wW m c (i 1) R
def final8 (_ : S1x128.Idx) : EReal := Ideal.ofBits .f32 0x3F000000#32 * ∑ R : Fin 4096, wQ m c R

theorem arr5 : (dats m 0 c).arrAt 5 cfg0.N = final5 m c := by
  refine (dats m 0 c).arrAt_eq_of_covers 5 _ (by decide +kernel) fun t hf y => ?_
  obtain ⟨e0, e1, e2, e3, e4, e5, e6⟩ := idx t
  blk_simp
  rw [after0_5, outs5]
  have key : ∀ f : S4096x1024.Idx → EReal, f (Idealize.ShloMosaic.ix2 (pos t (y 0)) (y 1)) = f ((win0_5.blk t).view.emb y) := fun f => by
    unfold pos
    blk_point [e5]
  exact key (final5 m c)

theorem arr6 : (dats m 0 c).arrAt 6 cfg0.N = final6 m c := by
  refine (dats m 0 c).arrAt_eq_of_covers 6 _ (by decide +kernel) fun t hf y => ?_
  obtain ⟨e0, e1, e2, e3, e4, e5, e6⟩ := idx t
  blk_simp
  rw [after0_6, outs6]
  have key : ∀ f : S4096x1024.Idx → EReal, f (Idealize.ShloMosaic.ix2 (pos t (y 0)) (y 1)) = f ((win0_6.blk t).view.emb y) := fun f => by
    unfold pos
    blk_point [e6]
  exact key (final6 m c)

theorem flush7 (t : Fin cfg0.N) (hf : (cfg0.win 7).flush t = true) : (dats m 0 c).flushed 7 t = ((cfg0.win 7).blk t).view.read (Elt Ideal) (final7 m c) := by
  have h8 : t.val < 8 := lt_of_lt_of_eq t.isLt N_0
  obtain rfl : t = t0_7 := Fin.ext (by have h := (flush0_7 t).mp hf; show t.val = 7; omega)
  have e : (outsAt0 m c t0_7.val t0_7.isLt).2.2.1 = final7 m c := funext fun y => (outs7 m c y 7 _).trans (sum_all (wW m c (y 1)))
  have hz' : (fun a => win0_7.index t0_7 a * main_v1_2.ty.shape.size a) = fun _ => 0 := funext fun a => by fin_cases a <;> decide
  show (cfg0.win 7).cut (grid0.coords t0_7) ((dats m 0 c).after 7 t0_7) = _
  rw [after0_7, e]
  exact (Memref.read_access_unit_zero (Elt Ideal) main_v1_2 hz' (fun a => by rw [congrFun hz' a]; simp) (final7 m c)).symm

theorem arr7 : (dats m 0 c).arrAt 7 cfg0.N = final7 m c := by
  refine (dats m 0 c).arrAt_eq_of_cover 7 (final7 m c) (flush7 m c) fun i => ⟨t0_7, (flush0_7 t0_7).mpr rfl, ?_⟩
  show i ∈ ((View.whole main_v1_2).slice (win0_7.rect t0_7)).set
  rw [View.set_slice_whole, Rect.mem_set_unit]
  intro a
  have p0 : (i 0 : Nat) < 1 := (i 0).isLt
  have p1 : (i 1 : Nat) < 1024 := (i 1).isLt
  have o0 : win0_7.index t0_7 0 * win0_7.size 0 = 0 := by decide +kernel
  have o1 : win0_7.index t0_7 1 * win0_7.size 1 = 0 := by decide +kernel
  have s0 : win0_7.xsize (grid0.coords t0_7) 0 = 1 := by decide +kernel
  have s1 : win0_7.xsize (grid0.coords t0_7) 1 = 1024 := by decide +kernel
  match a with
  | ⟨0, _⟩ =>
    show win0_7.index t0_7 0 * win0_7.size 0 ≤ (i 0 : Nat) ∧ (i 0 : Nat) < win0_7.index t0_7 0 * win0_7.size 0 + win0_7.xsize (grid0.coords t0_7) 0
    omega
  | ⟨1, _⟩ =>
    show win0_7.index t0_7 1 * win0_7.size 1 ≤ (i 1 : Nat) ∧ (i 1 : Nat) < win0_7.index t0_7 1 * win0_7.size 1 + win0_7.xsize (grid0.coords t0_7) 1
    omega

theorem flush8 (t : Fin cfg0.N) (hf : (cfg0.win 8).flush t = true) : (dats m 0 c).flushed 8 t = ((cfg0.win 8).blk t).view.read (Elt Ideal) (final8 m c) := by
  have h8 : t.val < 8 := lt_of_lt_of_eq t.isLt N_0
  obtain rfl : t = t0_7 := Fin.ext (by have h := (flush0_8 t).mp hf; show t.val = 7; omega)
  have e : (outsAt0 m c t0_7.val t0_7.isLt).2.2.2 = final8 m c := funext fun y => (outs8 m c y 7 _).trans (congrArg (fun p : EReal => Ideal.ofBits .f32 0x3F000000#32 * p) (sum_all (wQ m c)))
  have hz' : (fun a => win0_8.index t0_7 a * main_v1_3.ty.shape.size a) = fun _ => 0 := funext fun a => by fin_cases a <;> decide
  show (cfg0.win 8).cut (grid0.coords t0_7) ((dats m 0 c).after 8 t0_7) = _
  rw [after0_8, e]
  exact (Memref.read_access_unit_zero (Elt Ideal) main_v1_3 hz' (fun a => by rw [congrFun hz' a]; simp) (final8 m c)).symm

theorem arr8 : (dats m 0 c).arrAt 8 cfg0.N = final8 m c := by
  refine (dats m 0 c).arrAt_eq_of_cover 8 (final8 m c) (flush8 m c) fun i => ⟨t0_7, (flush0_8 t0_7).mpr rfl, ?_⟩
  show i ∈ ((View.whole main_v1_3).slice (win0_8.rect t0_7)).set
  rw [View.set_slice_whole, Rect.mem_set_unit]
  intro a
  have p0 : (i 0 : Nat) < 1 := (i 0).isLt
  have p1 : (i 1 : Nat) < 128 := (i 1).isLt
  have o0 : win0_8.index t0_7 0 * win0_8.size 0 = 0 := by decide +kernel
  have o1 : win0_8.index t0_7 1 * win0_8.size 1 = 0 := by decide +kernel
  have s0 : win0_8.xsize (grid0.coords t0_7) 0 = 1 := by decide +kernel
  have s1 : win0_8.xsize (grid0.coords t0_7) 1 = 128 := by decide +kernel
  match a with
  | ⟨0, _⟩ =>
    show win0_8.index t0_7 0 * win0_8.size 0 ≤ (i 0 : Nat) ∧ (i 0 : Nat) < win0_8.index t0_7 0 * win0_8.size 0 + win0_8.xsize (grid0.coords t0_7) 0
    omega
  | ⟨1, _⟩ =>
    show win0_8.index t0_7 1 * win0_8.size 1 ≤ (i 1 : Nat) ∧ (i 1 : Nat) < win0_8.index t0_7 1 * win0_8.size 1 + win0_8.xsize (grid0.coords t0_7) 1
    omega

end Mm10
-- ==== Proof.RefLoss.lean ====
/- The reference of the loss's call, read stage by stage. -/
module

public import proofs.«01_k».proof.Proof.Loss
public import proofs.«01_k».proof.Proof.Gen.Reference10Ideal.Run
public import proofs.«01_k».proof.Proof.Gen.Reference10Ideal.Read

@[expose] public section

noncomputable section

namespace RefLoss

open Idealize.ShloMosaic Idealize.ShloMosaic.TcCoe Cert.Reference10Ideal Cert.Reference10Ideal.Read Rows

variable (a : Vec Ideal S4096x4096 .bf16) (w : Vec Ideal S4x1024x1024 .bf16) (x t : Vec Ideal S4096x1024 .f32) (g : Vec Ideal S1x1024 .f32)
  (V X T : Fin 4096 → Fin 1024 → EReal) (G : Fin 1024 → EReal)

section
variable (hv : ∀ i, val_main_v3 (F := Ideal) a w i = V (i 0) (i 1))
include hv

theorem r10 (j : S4096x1.Idx) : val_main_v10 (F := Ideal) a w j = arg (V (j 0)) := by
  rw [val_main_v10_apply, val_main_v8_apply, val_main_v6_apply, val_main_v5_apply, val_main_v7_apply, val_main_v9_apply, val_main_cst_apply, val_main_cst_0_apply, val_main_cst_1_apply]
  simp only [val_main_v4_apply, hv]
  show Ideal.div (Ideal.ofBits .f32 0x00000000#32 + ∑ k : Fin 1024, V (j 0) k * V (j 0) k) (Ideal.ofBits .f32 0x44800000#32) + Ideal.ofBits .f32 0x358637BD#32 = _
  rw [Ideal.ofBits_zero_f32, zero_add]
  rfl

theorem r11 (j : S4096x1.Idx) : val_main_v11 (F := Ideal) a w j = rs (V (j 0)) := by
  rw [val_main_v11_apply, r10 a w V hv]
  rfl

theorem r14 (j : S4096x1.Idx) : val_main_v14 (F := Ideal) a w j = (Ideal.ofBits .f32 0xBF000000#32 * Ideal.div (rs (V (j 0))) (arg (V (j 0))) : EReal) := by
  rw [val_main_v14_apply, val_main_v13_apply, val_main_cst_2_apply, val_main_v12_apply, r11 a w V hv, r10 a w V hv]
  rfl

theorem r16 (i : S4096x1024.Idx) : val_main_v16 (F := Ideal) a w i = (V (i 0) (i 1) * rs (V (i 0)) : EReal) := by
  rw [val_main_v16_apply, val_main_v15_apply, r11 a w V hv, hv]
  rfl

variable (hx : ∀ i, x i = X (i 0) (i 1)) (ht : ∀ i, t i = T (i 0) (i 1)) (hg : ∀ i, g i = G (i 1))
include hx ht hg

theorem r20 (i : S4096x1024.Idx) : val_main_v20 (F := Ideal) a w x t g i = err (X (i 0)) (V (i 0)) G (T (i 0)) (i 1) := by
  rw [val_main_v20_apply, val_main_v19_apply, val_main_v18_apply, val_main_v17_apply, r16 a w V hv, hx, ht, hg]
  rfl

theorem r26 (j : S4096.Idx) : val_main_v26 (F := Ideal) a w x t g j = sq (X (j 0)) (V (j 0)) G (T (j 0)) := by
  rw [val_main_v26_apply, val_main_v25_apply, val_main_cst_5_apply, val_main_v24_apply, val_main_cst_4_apply]
  simp only [val_main_v21_apply, r20 a w x t g V X T G hv hx ht hg]
  show Ideal.div (Ideal.ofBits .f32 0x00000000#32 + ∑ k : Fin 1024, err (X (j 0)) (V (j 0)) G (T (j 0)) k * err (X (j 0)) (V (j 0)) G (T (j 0)) k) (Ideal.ofBits .f32 0x44800000#32) = _
  rw [Ideal.ofBits_zero_f32, zero_add]
  rfl

/-- The loss. -/
theorem r55 (i : S1x128.Idx) : val_main_v55 (F := Ideal) a w x t g i = (Ideal.ofBits .f32 0x3F000000#32 * ∑ R : Fin 4096, sq (X R) (V R) G (T R) : EReal) := by
  rw [val_main_v55_apply, val_main_v28_apply, val_main_v27_apply, val_main_cst_7_apply, val_main_cst_6_apply]
  simp only [r26 a w x t g V X T G hv hx ht hg]
  show Ideal.ofBits .f32 0x3F000000#32 * (Ideal.ofBits .f32 0x00000000#32 + ∑ j : S4096.Idx, sq (X (j 0)) (V (j 0)) G (T (j 0))) = _
  have h : ∑ j : S4096.Idx, sq (X (j 0)) (V (j 0)) G (T (j 0)) = ∑ R : Fin 4096, sq (X R) (V R) G (T R) :=
    Fintype.sum_bijective (fun j : S4096.Idx => (j 0 : Fin 4096))
      ⟨fun p q e => funext fun d => by fin_cases d; exact e, fun R => ⟨Idealize.ShloMosaic.ix1 R, rfl⟩⟩ _ _ fun _ => rfl
  rw [h, Ideal.ofBits_zero_f32, zero_add]

/-- The gradient for the residual sum. -/
theorem r34 (i : S4096x1024.Idx) : val_main_v34 (F := Ideal) a w x t g i = dy (X (i 0)) (V (i 0)) G (T (i 0)) (i 1) := by
  rw [val_main_v34_apply, val_main_v33_apply, val_main_v32_apply, val_main_v30_apply, val_main_v29_apply, val_main_cst_8_apply, val_main_cst_9_apply, val_main_v31_apply, val_main_cst_10_apply, val_main_v23_apply, val_main_v22_apply, val_main_cst_3_apply, r20 a w x t g V X T G hv hx ht hg]
  exact dy_plain _

/-- The gradient for the gain. -/
theorem r37 (i : S1x1024.Idx) : val_main_v37 (F := Ideal) a w x t g i = (∑ R : Fin 4096, gain (dy (X R) (V R) G (T R)) (V R) (i 1) : EReal) := by
  have hq : idx_main_v37 i = Idealize.ShloMosaic.ix1 (n0 := 1024) (i 1) := funext fun d => by
    match d with
    | ⟨0, _⟩ => exact Fin.ext (by have h0 : (i 0).val < 1 := (i 0).isLt; show (i 0).val * 1024 + (i 1).val = (i 1).val; omega)
  rw [val_main_v37_apply, val_main_v36_apply, val_main_cst_11_apply, hq]
  simp only [val_main_v35_apply, r16 a w V hv, r34 a w x t g V X T G hv hx ht hg]
  show Ideal.ofBits .f32 0x00000000#32 + ∑ R : Fin 4096, (V R (i 1) * rs (V R)) * dy (X R) (V R) G (T R) (i 1) = _
  rw [Ideal.ofBits_zero_f32, zero_add]
  exact Finset.sum_congr rfl fun R _ => mul_comm _ _

theorem r39 (i : S4096x1024.Idx) : val_main_v39 (F := Ideal) a w x t g i = (dy (X (i 0)) (V (i 0)) G (T (i 0)) (i 1) * G (i 1) : EReal) := by
  rw [val_main_v39_apply, val_main_v38_apply, r34 a w x t g V X T G hv hx ht hg, hg]
  rfl

theorem r41 (j : S4096.Idx) : val_main_v41 (F := Ideal) a w x t g j = (∑ k : Fin 1024, V (j 0) k * (dy (X (j 0)) (V (j 0)) G (T (j 0)) k * G k) : EReal) := by
  rw [val_main_v41_apply, val_main_cst_12_apply]
  simp only [val_main_v40_apply, r39 a w x t g V X T G hv hx ht hg, hv]
  show Ideal.ofBits .f32 0x00000000#32 + ∑ k : Fin 1024, V (j 0) k * (dy (X (j 0)) (V (j 0)) G (T (j 0)) k * G k) = _
  rw [Ideal.ofBits_zero_f32, zero_add]

theorem r47 (j : S4096x1.Idx) : val_main_v47 (F := Ideal) a w x t g j = plain (dy (X (j 0)) (V (j 0)) G (T (j 0))) (V (j 0)) G := by
  have hj : idx_main_v42 j = Idealize.ShloMosaic.ix1 (n0 := 4096) (j 0) := funext fun d => by
    match d with
    | ⟨0, _⟩ => exact Fin.ext (by have h1 : (j 1).val < 1 := (j 1).isLt; show (j 0).val * 1 + (j 1).val = (j 0).val; omega)
  rw [val_main_v47_apply, val_main_v46_apply, val_main_cst_13_apply, val_main_v45_apply, val_main_v42_apply, r14 a w V hv, r41 a w x t g V X T G hv hx ht hg, hj]
  rfl

theorem r49 (i : S4096x1024.Idx) : val_main_v49 (F := Ideal) a w x t g i = plain (dy (X (i 0)) (V (i 0)) G (T (i 0))) (V (i 0)) G := by
  rw [val_main_v49_apply, val_main_v48_apply, val_main_cst_14_apply]
  simp only [r47 a w x t g V X T G hv hx ht hg]
  show Ideal.ofBits .f32 0x00000000#32 + ∑ k : Fin 1, plain (dy (X (i 0)) (V (i 0)) G (T (i 0))) (V (i 0)) G = _
  rw [Ideal.ofBits_zero_f32, zero_add, Fin.sum_univ_one]

/-- The gradient for the product. -/
theorem r54 (i : S4096x1024.Idx) : val_main_v54 (F := Ideal) a w x t g i = dff (dy (X (i 0)) (V (i 0)) G (T (i 0))) (V (i 0)) G (i 1) := by
  rw [val_main_v54_apply, val_main_v53_apply, val_main_v51_apply, val_main_v44_apply, val_main_v43_apply, val_main_v50_apply, val_main_v52_apply, r39 a w x t g V X T G hv hx ht hg, r11 a w V hv, r49 a w x t g V X T G hv hx ht hg, hv]
  exact dff_plain (dy (X (i 0)) (V (i 0)) G (T (i 0))) (V (i 0)) G (i 1)

end

end RefLoss
-- ==== Proof.Mm10Value.lean ====
/- The loss's call computes what the reference computes. -/
module

public import proofs.«01_k».proof.Defs
public import proofs.«01_k».proof.Proof.Mm10
public import proofs.«01_k».proof.Proof.RefLoss

@[expose] public section

noncomputable section

namespace Mm10

open Idealize.ShloMosaic Idealize.ShloMosaic.TcCoe Idealize.SL.Sem Cert.Kernel10Ideal Cert.Kernel10Ideal.Gen

section
variable (m : (ℓ : Loc nD τ sig) → Buf (Elt Ideal) ℓ) (c : Dev nD)

theorem ref_v (i : S4096x1024.Idx) : Cert.Reference10Ideal.Read.val_main_v3 (F := Ideal) (A0 m c) (A1 m c) i = wV m c (i 0) (i 1) := by
  rw [Cert.Reference10Ideal.Read.val_main_v3_apply]
  show _ = (∑ k : Fin 4096, A0 m c (Idealize.ShloMosaic.ix2 (i 0) k) * whole (A1 m c) (Idealize.ShloMosaic.ix2 k (i 1)) : EReal)
  refine Finset.sum_congr rfl fun k _ => ?_
  rw [Cert.Reference10Ideal.Read.val_main_v2_apply, Cert.Reference10Ideal.Read.val_main_v1_apply, Cert.Reference10Ideal.Read.val_main_v0_apply]
  have h0 : (i 0).val < 4096 := (i 0).isLt
  have h1 : (i 1).val < 1024 := (i 1).isLt
  congr 1
  · refine congrArg (A0 m c) (funext fun d => Fin.ext ?_)
    match d with
    | ⟨0, _⟩ => rfl
    | ⟨1, _⟩ => rfl
  · refine congrArg (A1 m c) (funext fun d => Fin.ext ?_)
    match d with
    | ⟨0, _⟩ => show (k.val * 1024 + (i 1).val) / 1048576 = k.val / 1024; omega
    | ⟨1, _⟩ => show (k.val * 1024 + (i 1).val) / 1024 % 1024 = k.val % 1024; omega
    | ⟨2, _⟩ => show (k.val * 1024 + (i 1).val) % 1024 = (i 1).val; omega

theorem ref_x (i : S4096x1024.Idx) : A2 m c i = row (n := 4096) (k := 1024) (A2 m c) (i 0) (i 1) :=
  congrArg (A2 m c) (funext fun d => by fin_cases d <;> rfl : i = Idealize.ShloMosaic.ix2 (i 0) (i 1))
theorem ref_t (i : S4096x1024.Idx) : A3 m c i = row (n := 4096) (k := 1024) (A3 m c) (i 0) (i 1) :=
  congrArg (A3 m c) (funext fun d => by fin_cases d <;> rfl : i = Idealize.ShloMosaic.ix2 (i 0) (i 1))
theorem ref_g (i : S1x1024.Idx) : A4 m c i = row (n := 1) (k := 1024) (A4 m c) 0 (i 1) := by
  have e : i = Idealize.ShloMosaic.ix2 0 (i 1) := funext fun d => by
    match d with
    | ⟨0, _⟩ => exact Fin.ext (by have h0 : (i 0).val < 1 := (i 0).isLt; show (i 0).val = 0; omega)
    | ⟨1, _⟩ => rfl
  exact congrArg (A4 m c) e

end

theorem algebraic : Cert.algebraic_Kernel10Ideal_Reference10Ideal := by
  intro m g m' g' _ hm
  refine ⟨fun c => final5 m c, fun c => final6 m c, fun c => final7 m c, fun c => final8 m c, ?_, ?_⟩
  · exact (θ_run _ _ _).mono (fun r h c => ⟨(h c).1.trans (arr5 m c), (h c).2.1.trans (arr6 m c), (h c).2.2.1.trans (arr7 m c), (h c).2.2.2.1.trans (arr8 m c), (h c).2.2.2.2⟩) (Cert.Kernel10Ideal.Value.run_blocks (F := Ideal) m g)
  · refine (θ_run _ _ _).mono (fun r h c => ?_) (Cert.Reference10Ideal.Value.run (F := Ideal) m' g')
    obtain ⟨h0, h1, h2, h3, h4⟩ := hm c
    refine ⟨(h c).1.trans ?_, (h c).2.1.trans ?_, (h c).2.2.1.trans ?_, (h c).2.2.2.1.trans ?_, (h c).2.2.2.2⟩
    · refine (Cert.Reference10Ideal.Read.val_main_v34_eq _ _ _ _ _).trans ?_
      rw [h0, h1, h2, h3, h4]
      exact funext fun i => RefLoss.r34 (A0 m c) (A1 m c) (A2 m c) (A3 m c) (A4 m c) _ _ _ _ (ref_v m c) (ref_x m c) (ref_t m c) (ref_g m c) i
    · refine (Cert.Reference10Ideal.Read.val_main_v54_eq m' c).trans ?_
      rw [h0, h1, h2, h3, h4]
      exact funext fun i => RefLoss.r54 (A0 m c) (A1 m c) (A2 m c) (A3 m c) (A4 m c) _ _ _ _ (ref_v m c) (ref_x m c) (ref_t m c) (ref_g m c) i
    · refine (Cert.Reference10Ideal.Read.val_main_v37_eq _ _ _ _ _).trans ?_
      rw [h0, h1, h2, h3, h4]
      exact funext fun i => RefLoss.r37 (A0 m c) (A1 m c) (A2 m c) (A3 m c) (A4 m c) _ _ _ _ (ref_v m c) (ref_x m c) (ref_t m c) (ref_g m c) i
    · refine (Cert.Reference10Ideal.Read.val_main_v55_eq _ _ _ _ _).trans ?_
      rw [h0, h1, h2, h3, h4]
      exact funext fun i => RefLoss.r55 (A0 m c) (A1 m c) (A2 m c) (A3 m c) (A4 m c) _ _ _ _ (ref_v m c) (ref_x m c) (ref_t m c) (ref_g m c) i

end Mm10
-- ==== Proof.AttnNorm.lean ====
/- The norm of the attention's output: what its call writes is what the reference computes. -/
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ValueKit

@[expose] public section

noncomputable section

namespace AttnNorm

open Idealize.ShloMosaic Idealize.ShloMosaic.TcCoe Idealize.SL.Sem Cert.Kernel15Ideal Cert.Kernel15Ideal.Gen

/-- A row of a matrix. -/
def row {n : ℕ} (a : (⟨2, ![n, 512]⟩ : Shape).Idx → EReal) (r : Fin n) (k : Fin 512) : EReal := a (Idealize.ShloMosaic.ix2 r k)

/-- The norm's factor of a row of the attention's output, and the norm. -/
def rs (v : Fin 512 → EReal) : EReal :=
  Ideal.rsqrt (Ideal.div (∑ k : Fin 512, v k * v k) (Ideal.ofBits .f32 0x44000000#32) + Ideal.ofBits .f32 0x358637BD#32)
def norm (v g : Fin 512 → EReal) (q : Fin 512) : EReal := v q * rs v * g q

theorem pay_apply (o : Vec Ideal S512x512 .f32) (g : Vec Ideal S1x512 .f32) (z : S512x512.Idx) :
    k0_pay1 o g z = norm (row (n := 512) o (z 0)) (row (n := 1) g 0) (z 1) := by
  pointwise [k0_pay1]
  have hz : o z = o (Idealize.ShloMosaic.ix2 (z 0) (z 1)) := congrArg o (funext fun d => by fin_cases d <;> rfl)
  rw [hz]
  rfl

theorem hz : (![0, 0] : Fin 2 → Nat) = fun _ => 0 := funext fun a => by fin_cases a <;> rfl
theorem ldo (x : Vec Ideal S512x512 .f32) : View.ld (Val := Elt Ideal) x r0_0 = x := View.ld_unit_zero (S := S512x512) hz _ _
theorem ldg (x : Vec Ideal S1x512 .f32) : View.ld (Val := Elt Ideal) x r0_1 = x := View.ld_unit_zero (S := S1x512) hz _ _

variable (x0 : Vec Ideal S512x512 .f32) (x1 : Vec Ideal S1x512 .f32)

/-- One block of the norm. -/
def block (y : S512x512.Idx) : EReal := norm (row (n := 512) x0 (y 0)) (row (n := 1) x1 0) (y 1)

theorem out_apply (y : S512x512.Idx) : out0_2 x0 x1 y = block x0 x1 y := by
  refine View.canon_apply_of_pieces (Val := Elt Ideal) (e := .bf16) (block x0 x1) _ ?_ y (cover0_2 _ y)
  intro pc hpc
  rcases List.mem_singleton.mp hpc with rfl
  · intro z
    refine (pay_apply _ _ z).trans ?_
    have e : r0_0.emb z = z := funext fun d => Fin.ext (by
      match d with
      | ⟨0, _⟩ => exact ((ValueKit.rect_emb_unit_val _ _ _ _ _).trans (Nat.zero_add _) : (r0_0.emb z 0).val = (z 0).val)
      | ⟨1, _⟩ => exact ((ValueKit.rect_emb_unit_val _ _ _ _ _).trans (Nat.zero_add _) : (r0_0.emb z 1).val = (z 1).val))
    rw [ldo, ldg]
    exact (congrArg (block x0 x1) e).symm

theorem idx : ∀ t : Fin cfg0.grid.N, win0_0.index t = ![t.val, 0] ∧ win0_1.index t = ![0, 0] ∧ win0_2.index t = ![t.val, 0] := by
  decide +kernel

/-- The norm of the whole array. -/
def final (o : Vec Ideal S4096x512 .f32) (g : Vec Ideal S1x512 .f32) (i : S4096x512.Idx) : EReal :=
  norm (row (n := 4096) o (i 0)) (row (n := 1) g 0) (i 1)

section
variable {x0 x1} {o : Vec Ideal S4096x512 .f32} {g : Vec Ideal S1x512 .f32} {y : S512x512.Idx} {i : S4096x512.Idx}

theorem block_eq (h0 : ∀ k : Fin 512, x0 (Idealize.ShloMosaic.ix2 (y 0) k) = o (Idealize.ShloMosaic.ix2 (i 0) k))
    (h1 : ∀ k : Fin 512, x1 (Idealize.ShloMosaic.ix2 0 k) = g (Idealize.ShloMosaic.ix2 0 k))
    (hf : ∀ f : S1x512.Idx → EReal, f (Idealize.ShloMosaic.ix2 0 (y 1)) = f (Idealize.ShloMosaic.ix2 0 (i 1))) : block x0 x1 y = final o g i := by
  have e0 : row (n := 512) x0 (y 0) = row (n := 4096) o (i 0) := funext h0
  have e1 : row (n := 1) x1 0 = row (n := 1) g 0 := funext h1
  unfold block final
  rw [e0, e1]
  exact hf fun j => norm (row (n := 4096) o (i 0)) (row (n := 1) g 0) (j 1)

end

theorem arr (m : (ℓ : Loc nD τ sig) → Buf (Elt Ideal) ℓ) (c : Dev nD) :
    (dats m 0 c).arrAt 2 cfg0.N = final (m ((c : Thread nD τ).loc main_arg0)) (m ((c : Thread nD τ).loc main_arg1)) := by
  refine (dats m 0 c).arrAt_eq_of_covers 2 _ (by decide +kernel) fun t hf y => ?_
  obtain ⟨e0, e1, e2⟩ := idx t
  blk_simp
  rw [after0_2, out_apply]
  refine block_eq (fun k => ?_) (fun k => ?_) fun f => ?_
  · blk_point [iblk, V_main_arg0, e0, e2]
  · blk_point [iblk, V_main_arg1, e1]
  · blk_point [e2]

section
open Cert.Reference15Ideal.Read
variable (o : Vec Ideal S4096x512 .f32) (g : Vec Ideal S1x512 .f32)

theorem refr (j : Cert.Reference15Ideal.S4096x1.Idx) : val_main_v7 (F := Ideal) o j = rs (row (n := 4096) o (j 0)) := by
  rw [val_main_v7_apply, val_main_v6_apply, val_main_v4_apply, val_main_v2_apply, val_main_v1_apply, val_main_v3_apply, val_main_v5_apply, val_main_cst_apply, val_main_cst_0_apply, val_main_cst_1_apply]
  have e : ∀ k : Fin 512, idx_main_v1 (idx_main_v2 j) k = Idealize.ShloMosaic.ix2 (n0 := 4096) (n1 := 512) (j 0) k := fun k => funext fun d => Fin.ext (by
    have h1 : (j 1).val < 1 := (j 1).isLt
    match d with
    | ⟨0, _⟩ => first | rfl | (show (j 0).val * 1 + (j 1).val = (j 0).val; omega)
    | ⟨1, _⟩ => rfl)
  simp only [val_main_v0_apply, e]
  show Ideal.rsqrt (Ideal.div (Ideal.ofBits .f32 0x00000000#32 + _) _ + _) = _
  rw [Ideal.ofBits_zero_f32, zero_add]
  rfl

theorem ref (i : S4096x512.Idx) : val_main_v12 (F := Ideal) o g i = final o g i := by
  rw [val_main_v12_apply, val_main_v11_apply, val_main_v9_apply, val_main_v8_apply, val_main_v10_apply, refr]
  have hx : o i = o (Idealize.ShloMosaic.ix2 (i 0) (i 1)) := congrArg o (funext fun d => by fin_cases d <;> rfl)
  have hg : g (idx_main_v10 i) = g (Idealize.ShloMosaic.ix2 0 (i 1)) := congrArg g (funext fun d => by fin_cases d <;> rfl)
  rw [hx, hg]
  rfl

end

theorem algebraic : Cert.algebraic_Kernel15Ideal_Reference15Ideal := by
  intro m g m' g' _ hm
  refine ⟨fun c => final (m ((c : Thread nD τ).loc main_arg0)) (m ((c : Thread nD τ).loc main_arg1)), ?_, ?_⟩
  · exact (θ_run _ _ _).mono (fun r h c => ⟨(h c).1.trans (arr m c), (h c).2⟩) (Cert.Kernel15Ideal.Value.run_blocks (F := Ideal) m g)
  · refine (θ_run _ _ _).mono (fun r h c => ?_) (Cert.Reference15Ideal.Value.run (F := Ideal) m' g')
    obtain ⟨h0, h1⟩ := hm c
    refine ⟨(h c).1.trans ?_, (h c).2⟩
    refine (Cert.Reference15Ideal.Read.val_main_v12_eq _ _).trans ?_
    rw [h0, h1]
    exact funext fun i => ref _ _ i

end AttnNorm
-- ==== Proof.Optimiser.lean ====
/- The optimiser's step: each call's three arrays are the reference's, entry by entry. -/
module

public import proofs.«01_k».proof.Defs
public import proofs.«01_k».proof.Proof.Gen.Kernel11Ideal.Value
public import proofs.«01_k».proof.Proof.Gen.Reference11Ideal.Run
public import proofs.«01_k».proof.Proof.Gen.Kernel12Ideal.Value
public import proofs.«01_k».proof.Proof.Gen.Reference12Ideal.Run
public import proofs.«01_k».proof.Proof.Gen.Kernel13Ideal.Value
public import proofs.«01_k».proof.Proof.Gen.Reference13Ideal.Run
public import proofs.«01_k».proof.Proof.Gen.Kernel14Ideal.Value
public import proofs.«01_k».proof.Proof.Gen.Reference14Ideal.Run

@[expose] public section

noncomputable section

namespace Optimiser

open Idealize.ShloMosaic Idealize.ShloMosaic.TcCoe Idealize.SL.Sem

theorem algebraic11 : Cert.algebraic_Kernel11Ideal_Reference11Ideal := by
  intro m g m' g' _ hm
  refine ⟨fun c => Cert.Kernel11Ideal.Value.G4 (m ((c : Thread Cert.Kernel11Ideal.nD Cert.Kernel11Ideal.τ).loc Cert.Kernel11Ideal.main_arg1)) (m ((c : Thread Cert.Kernel11Ideal.nD Cert.Kernel11Ideal.τ).loc Cert.Kernel11Ideal.main_arg2)) (m ((c : Thread Cert.Kernel11Ideal.nD Cert.Kernel11Ideal.τ).loc Cert.Kernel11Ideal.main_arg3)) (m ((c : Thread Cert.Kernel11Ideal.nD Cert.Kernel11Ideal.τ).loc Cert.Kernel11Ideal.main_arg0)),
    fun c => Cert.Kernel11Ideal.Value.G5 (m ((c : Thread Cert.Kernel11Ideal.nD Cert.Kernel11Ideal.τ).loc Cert.Kernel11Ideal.main_arg1)) (m ((c : Thread Cert.Kernel11Ideal.nD Cert.Kernel11Ideal.τ).loc Cert.Kernel11Ideal.main_arg2)),
    fun c => Cert.Kernel11Ideal.Value.G6 (m ((c : Thread Cert.Kernel11Ideal.nD Cert.Kernel11Ideal.τ).loc Cert.Kernel11Ideal.main_arg1)) (m ((c : Thread Cert.Kernel11Ideal.nD Cert.Kernel11Ideal.τ).loc Cert.Kernel11Ideal.main_arg3)), Cert.Kernel11Ideal.Value.run (F := Ideal) m g, ?_⟩
  refine (θ_run _ _ _).mono (fun r h c => ?_) (Cert.Reference11Ideal.Value.run (F := Ideal) m' g')
  obtain ⟨h0, h1, h2, h3⟩ := hm c
  refine ⟨(h c).1.trans ?_, (h c).2.1.trans ?_, (h c).2.2.1.trans ?_, (h c).2.2.2⟩
  · rw [h0, h1, h2, h3]; exact funext fun i => rfl
  · rw [h1, h2]; exact funext fun i => rfl
  · rw [h1, h3]; exact funext fun i => rfl

theorem algebraic12 : Cert.algebraic_Kernel12Ideal_Reference12Ideal := by
  intro m g m' g' _ hm
  refine ⟨fun c => Cert.Kernel12Ideal.Value.G4 (m ((c : Thread Cert.Kernel12Ideal.nD Cert.Kernel12Ideal.τ).loc Cert.Kernel12Ideal.main_arg1)) (m ((c : Thread Cert.Kernel12Ideal.nD Cert.Kernel12Ideal.τ).loc Cert.Kernel12Ideal.main_arg2)) (m ((c : Thread Cert.Kernel12Ideal.nD Cert.Kernel12Ideal.τ).loc Cert.Kernel12Ideal.main_arg3)) (m ((c : Thread Cert.Kernel12Ideal.nD Cert.Kernel12Ideal.τ).loc Cert.Kernel12Ideal.main_arg0)),
    fun c => Cert.Kernel12Ideal.Value.G5 (m ((c : Thread Cert.Kernel12Ideal.nD Cert.Kernel12Ideal.τ).loc Cert.Kernel12Ideal.main_arg1)) (m ((c : Thread Cert.Kernel12Ideal.nD Cert.Kernel12Ideal.τ).loc Cert.Kernel12Ideal.main_arg2)),
    fun c => Cert.Kernel12Ideal.Value.G6 (m ((c : Thread Cert.Kernel12Ideal.nD Cert.Kernel12Ideal.τ).loc Cert.Kernel12Ideal.main_arg1)) (m ((c : Thread Cert.Kernel12Ideal.nD Cert.Kernel12Ideal.τ).loc Cert.Kernel12Ideal.main_arg3)), Cert.Kernel12Ideal.Value.run (F := Ideal) m g, ?_⟩
  refine (θ_run _ _ _).mono (fun r h c => ?_) (Cert.Reference12Ideal.Value.run (F := Ideal) m' g')
  obtain ⟨h0, h1, h2, h3⟩ := hm c
  refine ⟨(h c).1.trans ?_, (h c).2.1.trans ?_, (h c).2.2.1.trans ?_, (h c).2.2.2⟩
  · rw [h0, h1, h2, h3]; exact funext fun i => rfl
  · rw [h1, h2]; exact funext fun i => rfl
  · rw [h1, h3]; exact funext fun i => rfl

theorem algebraic13 : Cert.algebraic_Kernel13Ideal_Reference13Ideal := by
  intro m g m' g' _ hm
  refine ⟨fun c => Cert.Kernel13Ideal.Value.G4 (m ((c : Thread Cert.Kernel13Ideal.nD Cert.Kernel13Ideal.τ).loc Cert.Kernel13Ideal.main_arg1)) (m ((c : Thread Cert.Kernel13Ideal.nD Cert.Kernel13Ideal.τ).loc Cert.Kernel13Ideal.main_arg2)) (m ((c : Thread Cert.Kernel13Ideal.nD Cert.Kernel13Ideal.τ).loc Cert.Kernel13Ideal.main_arg3)) (m ((c : Thread Cert.Kernel13Ideal.nD Cert.Kernel13Ideal.τ).loc Cert.Kernel13Ideal.main_arg0)),
    fun c => Cert.Kernel13Ideal.Value.G5 (m ((c : Thread Cert.Kernel13Ideal.nD Cert.Kernel13Ideal.τ).loc Cert.Kernel13Ideal.main_arg1)) (m ((c : Thread Cert.Kernel13Ideal.nD Cert.Kernel13Ideal.τ).loc Cert.Kernel13Ideal.main_arg2)),
    fun c => Cert.Kernel13Ideal.Value.G6 (m ((c : Thread Cert.Kernel13Ideal.nD Cert.Kernel13Ideal.τ).loc Cert.Kernel13Ideal.main_arg1)) (m ((c : Thread Cert.Kernel13Ideal.nD Cert.Kernel13Ideal.τ).loc Cert.Kernel13Ideal.main_arg3)), Cert.Kernel13Ideal.Value.run (F := Ideal) m g, ?_⟩
  refine (θ_run _ _ _).mono (fun r h c => ?_) (Cert.Reference13Ideal.Value.run (F := Ideal) m' g')
  obtain ⟨h0, h1, h2, h3⟩ := hm c
  refine ⟨(h c).1.trans ?_, (h c).2.1.trans ?_, (h c).2.2.1.trans ?_, (h c).2.2.2⟩
  · rw [h0, h1, h2, h3]; exact funext fun i => rfl
  · rw [h1, h2]; exact funext fun i => rfl
  · rw [h1, h3]; exact funext fun i => rfl

theorem algebraic14 : Cert.algebraic_Kernel14Ideal_Reference14Ideal := by
  intro m g m' g' _ hm
  refine ⟨fun c => Cert.Kernel14Ideal.Value.G4 (m ((c : Thread Cert.Kernel14Ideal.nD Cert.Kernel14Ideal.τ).loc Cert.Kernel14Ideal.main_arg1)) (m ((c : Thread Cert.Kernel14Ideal.nD Cert.Kernel14Ideal.τ).loc Cert.Kernel14Ideal.main_arg2)) (m ((c : Thread Cert.Kernel14Ideal.nD Cert.Kernel14Ideal.τ).loc Cert.Kernel14Ideal.main_arg3)) (m ((c : Thread Cert.Kernel14Ideal.nD Cert.Kernel14Ideal.τ).loc Cert.Kernel14Ideal.main_arg0)),
    fun c => Cert.Kernel14Ideal.Value.G5 (m ((c : Thread Cert.Kernel14Ideal.nD Cert.Kernel14Ideal.τ).loc Cert.Kernel14Ideal.main_arg1)) (m ((c : Thread Cert.Kernel14Ideal.nD Cert.Kernel14Ideal.τ).loc Cert.Kernel14Ideal.main_arg2)),
    fun c => Cert.Kernel14Ideal.Value.G6 (m ((c : Thread Cert.Kernel14Ideal.nD Cert.Kernel14Ideal.τ).loc Cert.Kernel14Ideal.main_arg1)) (m ((c : Thread Cert.Kernel14Ideal.nD Cert.Kernel14Ideal.τ).loc Cert.Kernel14Ideal.main_arg3)), Cert.Kernel14Ideal.Value.run (F := Ideal) m g, ?_⟩
  refine (θ_run _ _ _).mono (fun r h c => ?_) (Cert.Reference14Ideal.Value.run (F := Ideal) m' g')
  obtain ⟨h0, h1, h2, h3⟩ := hm c
  refine ⟨(h c).1.trans ?_, (h c).2.1.trans ?_, (h c).2.2.1.trans ?_, (h c).2.2.2⟩
  · rw [h0, h1, h2, h3]; exact funext fun i => rfl
  · rw [h1, h2]; exact funext fun i => rfl
  · rw [h1, h3]; exact funext fun i => rfl

end Optimiser
-- ==== Proof.lean ====
/- The frames of all programs, that the idealized kernels are the kernels with their roundings taken off, and that the
   calls with a value claim compute, over the reals, what the plain references compute. -/
module

public import proofs.«01_k».proof.Proof.Frames
public import proofs.«01_k».proof.Proof.ProductFrames
public import proofs.«01_k».proof.Proof.Mm2
public import proofs.«01_k».proof.Proof.Mm3
public import proofs.«01_k».proof.Proof.Mm4
public import proofs.«01_k».proof.Proof.Mm5
public import proofs.«01_k».proof.Proof.Mm6
public import proofs.«01_k».proof.Proof.Mm7
public import proofs.«01_k».proof.Proof.Mm8
public import proofs.«01_k».proof.Proof.Mm9
public import proofs.«01_k».proof.Proof.Mm10Value
public import proofs.«01_k».proof.Proof.AttnNorm
public import proofs.«01_k».proof.Proof.Optimiser

@[expose] public section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    kernel_frame, ideal_frame, reference_frame,
    kernel2_frame, ideal2_frame, reference2_frame,
    kernel3_frame, ideal3_frame, reference3_frame,
    kernel4_frame, ideal4_frame, reference4_frame,
    kernel5_frame, ideal5_frame, reference5_frame,
    kernel6_frame, ideal6_frame, reference6_frame,
    kernel7_frame, ideal7_frame, reference7_frame,
    kernel8_frame, ideal8_frame, reference8_frame,
    kernel9_frame, ideal9_frame, reference9_frame,
    kernel10_frame, ideal10_frame, reference10_frame,
    kernel11_frame, ideal11_frame, reference11_frame,
    kernel12_frame, ideal12_frame, reference12_frame,
    kernel13_frame, ideal13_frame, reference13_frame,
    kernel14_frame, ideal14_frame, reference14_frame,
    kernel15_frame, ideal15_frame, reference15_frame,
    preserves,
    trivial, Mm2.algebraic,
    trivial, Mm3.algebraic,
    trivial, Mm4.algebraic,
    trivial, Mm5.algebraic,
    trivial, Mm6.algebraic,
    trivial, Mm7.algebraic,
    trivial, Mm8.algebraic,
    trivial, Mm9.algebraic,
    trivial, Mm10.algebraic,
    trivial, Optimiser.algebraic11,
    trivial, Optimiser.algebraic12,
    trivial, Optimiser.algebraic13,
    trivial, Optimiser.algebraic14,
    trivial, AttnNorm.algebraic⟩

end Cert.Proof
